-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S512x4096 : Shape := ⟨2, ![512, 4096]⟩
abbrev S512x64 : Shape := ⟨2, ![512, 64]⟩
abbrev S131072 : Shape := ⟨1, ![131072]⟩
abbrev S4112 : Shape := ⟨1, ![4112]⟩
abbrev S_ : Shape := ⟨0, ![]⟩
abbrev S16 : Shape := ⟨1, ![16]⟩
abbrev S1x16 : Shape := ⟨2, ![1, 16]⟩
abbrev S1 : Shape := ⟨1, ![1]⟩
abbrev S4096 : Shape := ⟨1, ![4096]⟩
abbrev S16384x8 : Shape := ⟨2, ![16384, 8]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S131072, .f32⟩
  | .hbm, ⟨5, _⟩ => ⟨S131072, .i32⟩
  | .hbm, ⟨6, _⟩ => ⟨S16384x8, .f32⟩
  | .hbm, ⟨7, _⟩ => ⟨S16384x8, .i32⟩
  | .local .tc .vmem, ⟨0, _⟩ => ⟨S512x4096, .f32⟩
  | .local .tc .vmem, ⟨1, _⟩ => ⟨S512x4096, .f32⟩
  | .local .tc .vmem, ⟨2, _⟩ => ⟨S4096x64, .f32⟩
  | .local .tc .vmem, ⟨3, _⟩ => ⟨S512x64, .f32⟩
  | .local .tc .vmem, ⟨4, _⟩ => ⟨S512x64, .f32⟩
  | .local .scVector .vmem, ⟨0, _⟩ => ⟨S512x64, .f32⟩
  | .local .scVector .vmem, ⟨1, _⟩ => ⟨S4112, .f32⟩
  | .local .scVector .vmem, ⟨2, _⟩ => ⟨S4112, .i32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_5_r0 : BitVec 32 := 0#32
  ![v2.toNat, 0]
@[reducible] def k1_t1_loop : Scf.Loop 32 :=
  let c0_i32_0 : BitVec 32 := 0#32
  let c512_i32_1 : BitVec 32 := 512#32
  let v6 : BitVec 32 := Scalar.addi c0_i32_0 c512_i32_1
  let c1_i32 : BitVec 32 := 1#32
  ⟨c0_i32_0, v6, c1_i32⟩
def k1_off2 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let v9 : Index := Scalar.indexCast arg8
  let c0 : Index := 0#32
  ![v9.toNat, 0]
@[reducible] def k1_t2_loop : Scf.Loop 32 :=
  let c0_i32_7 : BitVec 32 := 0#32
  let c16_i32 : BitVec 32 := 16#32
  let v15 : BitVec 32 := Scalar.addi c0_i32_7 c16_i32
  let c1_i32_8 : BitVec 32 := 1#32
  ⟨c0_i32_7, v15, c1_i32_8⟩
def k1_off3 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let v17 : Index := Scalar.indexCast arg8
  let c16 : Index := 16#32
  ![v17.toNat, 16]
@[reducible] def k1_t3_loop : Scf.Loop 32 :=
  let c0_i32_12 : BitVec 32 := 0#32
  let c16_i32_13 : BitVec 32 := 16#32
  let v23 : BitVec 32 := Scalar.addi c0_i32_12 c16_i32_13
  let c1_i32_14 : BitVec 32 := 1#32
  ⟨c0_i32_12, v23, c1_i32_14⟩
def k1_off4 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let v25 : Index := Scalar.indexCast arg8
  let c32 : Index := 32#32
  ![v25.toNat, 32]
@[reducible] def k1_t4_loop : Scf.Loop 32 :=
  let c0_i32_17 : BitVec 32 := 0#32
  let c16_i32_18 : BitVec 32 := 16#32
  let v31 : BitVec 32 := Scalar.addi c0_i32_17 c16_i32_18
  let c1_i32_19 : BitVec 32 := 1#32
  ⟨c0_i32_17, v31, c1_i32_19⟩
def k1_off5 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let v33 : Index := Scalar.indexCast arg8
  let c48 : Index := 48#32
  ![v33.toNat, 48]
@[reducible] def k1_t5_loop : Scf.Loop 32 :=
  let c0_i32_22 : BitVec 32 := 0#32
  let c16_i32_23 : BitVec 32 := 16#32
  let v39 : BitVec 32 := Scalar.addi c0_i32_22 c16_i32_23
  let c1_i32_24 : BitVec 32 := 1#32
  ⟨c0_i32_22, v39, c1_i32_24⟩
@[reducible] def k1_t6_loop : Scf.Loop 32 :=
  let c0_i32_47 : BitVec 32 := 0#32
  let c16_i32_48 : BitVec 32 := 16#32
  let v240 : BitVec 32 := Scalar.addi c0_i32_47 c16_i32_48
  let c1_i32_49 : BitVec 32 := 1#32
  ⟨c0_i32_47, v240, c1_i32_49⟩
@[reducible] def k1_t7_loop : Scf.Loop 32 :=
  let c0_i32_84 : BitVec 32 := 0#32
  let c16_i32_85 : BitVec 32 := 16#32
  let v441 : BitVec 32 := Scalar.addi c0_i32_84 c16_i32_85
  let c1_i32_86 : BitVec 32 := 1#32
  ⟨c0_i32_84, v441, c1_i32_86⟩
@[reducible] def k1_t8_loop : Scf.Loop 32 :=
  let c0_i32_121 : BitVec 32 := 0#32
  let c16_i32_122 : BitVec 32 := 16#32
  let v642 : BitVec 32 := Scalar.addi c0_i32_121 c16_i32_122
  let c1_i32_123 : BitVec 32 := 1#32
  ⟨c0_i32_121, v642, c1_i32_123⟩

def k1_chk1 (v747 : IVec S16 32) : Prop :=
  (∀ a x, ((![v747] : Fin 1 → IVec S16 32) a x).toNat < S4112.size a)
theorem k1_idx1_inb : ∀ (v747 : IVec S16 32) (k1_hw1 : k1_chk1 v747), ∀ a x, ((![v747] : Fin 1 → IVec S16 32) a x).toNat < S4112.size a := fun v747 k1_hw1 => k1_hw1

def k1_chk2 (v750 : IVec S16 32) : Prop :=
  (∀ a x, ((![v750] : Fin 1 → IVec S16 32) a x).toNat < S4112.size a)
theorem k1_idx2_inb : ∀ (v750 : IVec S16 32) (k1_hw2 : k1_chk2 v750), ∀ a x, ((![v750] : Fin 1 → IVec S16 32) a x).toNat < S4112.size a := fun v750 k1_hw2 => k1_hw2
def k1_off6 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c8_i32_3 : BitVec 32 := 8#32
  let v7 : BitVec 32 := Scalar.muli v2 c8_i32_3
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S16384x8 : Shape := ⟨2, ![16384, 8]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S16384x8, .f32⟩
  | .hbm, ⟨5, _⟩ => ⟨S16384x8, .i32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x8, .f32⟩
  | .hbm, ⟨13, _⟩ => ⟨S16384x8, .f32⟩
  | .hbm, ⟨14, _⟩ => ⟨S16384x8, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x8, .f32⟩
  | .hbm, ⟨19, _⟩ => ⟨S16384x8, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Lanes.lean ====
module

public import proofs.«01_k».proof.Proof.Gen.KernelIdeal

/-! The router's arithmetic on one register of sixteen lanes, apart from any program: the greatest
lane, the sum of the lanes, the reversal, the selection sort, the merge of two sorted registers, and
what one token's sixty-four logits become. -/

@[expose] public section

namespace Router

open Idealize.SL Idealize.SL.Sem Idealize.ShloMosaic Idealize.ShloMosaic.StableHlo

variable {F : FTy → Type} [FloatOps F]

abbrev S16 : Shape := ⟨1, ![16]⟩
abbrev S1 : Shape := ⟨1, ![1]⟩

theorem slices16 (k : Nat) (h : k + 1 ≤ 16) : S16.Slices ![k] S1 :=
  ⟨rfl, fun a => by fin_cases a; exact h⟩

/-- Lane `k` of a register. -/
def lane {α : Type} (k : Nat) (v : S16.Idx → α) (h : k + 1 ≤ 16 := by decide) : α :=
  extractAt ![0] (extractStridedSlice S1 ![k] v (slices16 k h)) (by decide)

/-- The index of lane `k`. -/
def at16 (k : Fin 16) : S16.Idx := fun a => ⟨k.val, by fin_cases a; exact k.isLt⟩

theorem lane_eq {α : Type} (k : Nat) (v : S16.Idx → α) (h : k + 1 ≤ 16) :
    lane k v h = v (at16 ⟨k, h⟩) := by
  unfold lane extractAt extractStridedSlice
  congr 1
  funext a
  fin_cases a
  rfl

theorem at16_surj (j : S16.Idx) : j = at16 (j 0) := by
  funext a
  fin_cases a
  rfl

/-- The lane numbers. -/
def lanes : IVec S16 32 := iota .scVector S16 32 [0] (by decide)

theorem lanes_at (k : Fin 16) : lanes (at16 k) = BitVec.ofNat 32 k.val := by
  show BitVec.ofNat 32 (0 * _ + k.val) = _
  rw [Nat.zero_mul, Nat.zero_add]

/-- The greatest lane. -/
def maxl (v : Vec F S16 .f32) : F .f32 :=
  Scalar.maximumf
    (Scalar.maximumf
    (Scalar.maximumf
    (Scalar.maximumf
    (Scalar.maximumf
    (Scalar.maximumf
    (Scalar.maximumf
    (Scalar.maximumf
    (Scalar.maximumf
    (Scalar.maximumf
    (Scalar.maximumf
    (Scalar.maximumf
    (Scalar.maximumf
    (Scalar.maximumf
    (Scalar.maximumf
    (lane 0 v) (lane 1 v)) (lane 2 v)) (lane 3 v)) (lane 4 v)) (lane 5 v)) (lane 6 v)) (lane 7 v)) (lane 8 v)) (lane 9 v)) (lane 10 v)) (lane 11 v)) (lane 12 v)) (lane 13 v)) (lane 14 v)) (lane 15 v)

/-- The sum of the lanes. -/
def suml (v : Vec F S16 .f32) : F .f32 :=
  Scalar.addf
    (Scalar.addf
    (Scalar.addf
    (Scalar.addf
    (Scalar.addf
    (Scalar.addf
    (Scalar.addf
    (Scalar.addf
    (Scalar.addf
    (Scalar.addf
    (Scalar.addf
    (Scalar.addf
    (Scalar.addf
    (Scalar.addf
    (Scalar.addf
    (lane 0 v) (lane 1 v)) (lane 2 v)) (lane 3 v)) (lane 4 v)) (lane 5 v)) (lane 6 v)) (lane 7 v)) (lane 8 v)) (lane 9 v)) (lane 10 v)) (lane 11 v)) (lane 12 v)) (lane 13 v)) (lane 14 v)) (lane 15 v)

/-- The lanes in the opposite order. -/
def rev {α : Type} (v : S16.Idx → α) : S16.Idx → α :=
  select (cmpi .eq lanes (broadcast S16 0#32)) (broadcast S16 (lane 15 v))
    (select (cmpi .eq lanes (broadcast S16 1#32)) (broadcast S16 (lane 14 v))
    (select (cmpi .eq lanes (broadcast S16 2#32)) (broadcast S16 (lane 13 v))
    (select (cmpi .eq lanes (broadcast S16 3#32)) (broadcast S16 (lane 12 v))
    (select (cmpi .eq lanes (broadcast S16 4#32)) (broadcast S16 (lane 11 v))
    (select (cmpi .eq lanes (broadcast S16 5#32)) (broadcast S16 (lane 10 v))
    (select (cmpi .eq lanes (broadcast S16 6#32)) (broadcast S16 (lane 9 v))
    (select (cmpi .eq lanes (broadcast S16 7#32)) (broadcast S16 (lane 8 v))
    (select (cmpi .eq lanes (broadcast S16 8#32)) (broadcast S16 (lane 7 v))
    (select (cmpi .eq lanes (broadcast S16 9#32)) (broadcast S16 (lane 6 v))
    (select (cmpi .eq lanes (broadcast S16 10#32)) (broadcast S16 (lane 5 v))
    (select (cmpi .eq lanes (broadcast S16 11#32)) (broadcast S16 (lane 4 v))
    (select (cmpi .eq lanes (broadcast S16 12#32)) (broadcast S16 (lane 3 v))
    (select (cmpi .eq lanes (broadcast S16 13#32)) (broadcast S16 (lane 2 v))
    (select (cmpi .eq lanes (broadcast S16 14#32)) (broadcast S16 (lane 1 v))
    (select (cmpi .eq lanes (broadcast S16 15#32)) (broadcast S16 (lane 0 v))
    (v))))))))))))))))

/-- The greatest key not yet taken. -/
def topKey (keys : Vec F S16 .f32) (left : IVec S16 32) : F .f32 :=
  maxl (select (cmpi .eq left (broadcast S16 1#32)) keys (broadcast S16 (Scalar.ofBits .f32 0xFF800000#32)))

/-- The lanes left that hold it. -/
def hits (keys : Vec F S16 .f32) (left : IVec S16 32) : IVec S16 1 :=
  andi (cmpi .eq left (broadcast S16 1#32)) (cmpf .oeq keys (broadcast S16 (topKey keys left)))

/-- The least payload over the lanes marked. -/
def least (hit : IVec S16 1) (vals : IVec S16 32) : BitVec 32 :=
  extractAt ![15] (xori (scan .min (xori (select hit vals (broadcast S16 2147483647#32))
    (broadcast S16 2147483648#32))) (broadcast S16 2147483648#32)) (by decide)

/-- One round of the selection sort, at lane `t` of the result. -/
def sortStep (keys : Vec F S16 .f32) (vals : IVec S16 32) (t : BitVec 32)
    (s : IVec S16 32 × Vec F S16 .f32 × IVec S16 32) : IVec S16 32 × Vec F S16 .f32 × IVec S16 32 :=
  (select (andi (hits keys s.1) (cmpi .eq vals (broadcast S16 (least (hits keys s.1) vals)))) (broadcast S16 0#32) s.1,
    select (cmpi .eq lanes (broadcast S16 t)) (broadcast S16 (topKey keys s.1)) s.2.1,
    select (cmpi .eq lanes (broadcast S16 t)) (broadcast S16 (least (hits keys s.1) vals)) s.2.2)

/-- The first `n` rounds. -/
def sortRounds (keys : Vec F S16 .f32) (vals : IVec S16 32) : Nat → IVec S16 32 × Vec F S16 .f32 × IVec S16 32
  | 0 => (broadcast S16 1#32, keys, vals)
  | n + 1 => sortStep keys vals (BitVec.ofNat 32 n) (sortRounds keys vals n)

/-- The keys sorted, -/
def sortK (keys : Vec F S16 .f32) (vals : IVec S16 32) : Vec F S16 .f32 := (sortRounds keys vals 16).2.1
/-- and the payloads with them. -/
def sortV (keys : Vec F S16 .f32) (vals : IVec S16 32) : IVec S16 32 := (sortRounds keys vals 16).2.2

/-- The greater of a register and the reversal of another, lane by lane: the keys, -/
def highK (a b : Vec F S16 .f32) : Vec F S16 .f32 := select (cmpf .oge a (rev b)) a (rev b)
/-- and the payloads with them. -/
def highV (a b : Vec F S16 .f32) (ai bi : IVec S16 32) : IVec S16 32 := select (cmpf .oge a (rev b)) ai (rev bi)

/-- The merge of two sorted registers: the keys, -/
def mergeK (a : Vec F S16 .f32) (ai : IVec S16 32) (b : Vec F S16 .f32) (bi : IVec S16 32) : Vec F S16 .f32 :=
  sortK (highK a b) (highV a b ai bi)
/-- and the payloads. -/
def mergeV (a : Vec F S16 .f32) (ai : IVec S16 32) (b : Vec F S16 .f32) (bi : IVec S16 32) : IVec S16 32 :=
  sortV (highK a b) (highV a b ai bi)

/-- The numbers of the experts of group `16 g`. -/
def group (g : BitVec 32) : IVec S16 32 := addi lanes (broadcast S16 g)

/-- A token's sixteen greatest logits, in order, from the four registers that hold its logits, -/
def tokK (a b c d : Vec F S16 .f32) : Vec F S16 .f32 :=
  mergeK (mergeK (sortK a (group 0#32)) (sortV a (group 0#32)) (sortK b (group 16#32)) (sortV b (group 16#32)))
    (mergeV (sortK a (group 0#32)) (sortV a (group 0#32)) (sortK b (group 16#32)) (sortV b (group 16#32)))
    (mergeK (sortK c (group 32#32)) (sortV c (group 32#32)) (sortK d (group 48#32)) (sortV d (group 48#32)))
    (mergeV (sortK c (group 32#32)) (sortV c (group 32#32)) (sortK d (group 48#32)) (sortV d (group 48#32)))
/-- and their experts. -/
def tokV (a b c d : Vec F S16 .f32) : IVec S16 32 :=
  mergeV (mergeK (sortK a (group 0#32)) (sortV a (group 0#32)) (sortK b (group 16#32)) (sortV b (group 16#32)))
    (mergeV (sortK a (group 0#32)) (sortV a (group 0#32)) (sortK b (group 16#32)) (sortV b (group 16#32)))
    (mergeK (sortK c (group 32#32)) (sortV c (group 32#32)) (sortK d (group 48#32)) (sortV d (group 48#32)))
    (mergeV (sortK c (group 32#32)) (sortV c (group 32#32)) (sortK d (group 48#32)) (sortV d (group 48#32)))

/-- The lanes below eight. -/
def low8 : IVec S16 1 := cmpi .slt lanes (broadcast S16 8#32)

/-- The exponentials of the first eight lanes' differences from the greatest, nothing elsewhere. -/
def expo (m : IVec S16 1) (v : Vec F S16 .f32) : Vec F S16 .f32 :=
  select m (exp (subf v (broadcast S16 (maxl v)))) (broadcast S16 (Scalar.ofBits .f32 0x00000000#32))

/-- The softmax of the first eight lanes. -/
def soft (m : IVec S16 1) (v : Vec F S16 .f32) : Vec F S16 .f32 := divf (expo m v) (broadcast S16 (suml (expo m v)))

section Loop

universe v
variable {E : Type → Type v} {σ : Type}

/-- A loop whose region only computes is a computation. -/
theorem forFrom_pure {n : Nat} (body : Fin n → σ → Prog E σ) (f : Fin n → σ → σ) (h : ∀ k c, body k c = pure (f k c))
    (ks : List (Fin n)) (c : σ) : Scf.forFrom body ks c = pure (ks.foldl (fun c k => f k c) c) := by
  induction ks generalizing c with
  | nil => rfl
  | cons k ks ih => rw [Scf.forFrom_cons, h]; exact ih (f k c)

theorem for_pure {w : Nat} (lb ub st : BitVec w) (ok : Scf.OK lb ub st) (init : σ) (body : Fin (Scf.trips lb ub st) → σ → Prog E σ)
    (f : Fin (Scf.trips lb ub st) → σ → σ) (h : ∀ k c, body k c = pure (f k c)) :
    Scf.for lb ub st ok init body = pure ((List.finRange (Scf.trips lb ub st)).foldl (fun c k => f k c) init) := by
  rw [Scf.for_eq, forFrom_pure body f h]

/-- Sixteen rounds of the sort, as the loop's trips. -/
theorem sort_trips (keys : Vec F S16 .f32) (vals : IVec S16 32) (n : Nat) :
    (List.finRange n).foldl (fun c (k : Fin n) => sortStep keys vals (BitVec.ofNat 32 k.val) c) (sortRounds keys vals 0)
      = sortRounds keys vals n := by
  induction n with
  | zero => rfl
  | succ n ih =>
    rw [List.finRange_succ_last, List.foldl_append, List.foldl_map]
    simp only [Fin.val_castSucc, List.foldl_cons, List.foldl_nil, Fin.val_last]
    rw [ih]
    rfl

theorem iv01 (k : Nat) : Scf.iv 0#32 1#32 k = BitVec.ofNat 32 k := by
  unfold Scf.iv
  rw [BitVec.mul_one, BitVec.zero_add]

end Loop

/-! ## Registers of an array's rows -/

section Rows

/-- An array of `n` rows of sixty-four. -/
abbrev Rows (n : Nat) : Shape := ⟨2, ![n, 64]⟩

/-- Its element at row `r`, column `c`. -/
def pt {n : Nat} (r : Fin n) (c : Fin 64) : (Rows n).Idx := fun a => match a with
  | 0 => r
  | 1 => c

theorem pt_eta {n : Nat} (j : (Rows n).Idx) : pt (n := n) (j 0) (j 1) = j := by
  funext a
  match a with
  | 0 => rfl
  | 1 => rfl

/-- The register holding columns `16 q … 16 q + 15` of row `r`. -/
def reg {n : Nat} (g : Vec F (Rows n) .f32) (r : Fin n) (q : Fin 4) : Vec F S16 .f32 :=
  fun x => g (pt r ⟨16 * q.val + (x 0).val, by have h : (x 0).val < 16 := (x 0).isLt; have := q.isLt; omega⟩)

/-- What a token's scores are, at a lane, -/
def scoreAt {n : Nat} (g : Vec F (Rows n) .f32) (r : Fin n) (l : Fin 16) : F .f32 :=
  soft low8 (tokK (reg g r 0) (reg g r 1) (reg g r 2) (reg g r 3)) (at16 l)

/-- and its experts. -/
def expertAt {n : Nat} (g : Vec F (Rows n) .f32) (r : Fin n) (l : Fin 16) : BitVec 32 :=
  tokV (reg g r 0) (reg g r 1) (reg g r 2) (reg g r 3) (at16 l)

theorem reg_congr {n n' : Nat} {g : Vec F (Rows n) .f32} {g' : Vec F (Rows n') .f32} {r : Fin n} {r' : Fin n'}
    (h : ∀ c, g (pt r c) = g' (pt r' c)) (q : Fin 4) : reg g r q = reg g' r' q := funext fun _ => h _

theorem scoreAt_congr {n n' : Nat} {g : Vec F (Rows n) .f32} {g' : Vec F (Rows n') .f32} {r : Fin n} {r' : Fin n'}
    (h : ∀ c, g (pt r c) = g' (pt r' c)) (l : Fin 16) : scoreAt g r l = scoreAt g' r' l := by
  unfold scoreAt
  rw [reg_congr h, reg_congr h, reg_congr h, reg_congr h]

theorem expertAt_congr {n n' : Nat} {g : Vec F (Rows n) .f32} {g' : Vec F (Rows n') .f32} {r : Fin n} {r' : Fin n'}
    (h : ∀ c, g (pt r c) = g' (pt r' c)) (l : Fin 16) : expertAt g r l = expertAt g' r' l := by
  unfold expertAt
  rw [reg_congr h, reg_congr h, reg_congr h, reg_congr h]

/-- The scores of all rows, eight to a row, one after another, -/
def scoresFlat {n N : Nat} (hN : N = 8 * n) (g : Vec F (Rows n) .f32) : Vec F ⟨1, ![N]⟩ .f32 :=
  fun j => scoreAt g ⟨(j 0).val / 8, by have h : (j 0).val < N := (j 0).isLt; omega⟩ ⟨(j 0).val % 8, by omega⟩
/-- and the experts. -/
def expertsFlat {n N : Nat} (hN : N = 8 * n) (g : Vec F (Rows n) .f32) : Vec F ⟨1, ![N]⟩ .i32 :=
  fun j => expertAt g ⟨(j 0).val / 8, by have h : (j 0).val < N := (j 0).isLt; omega⟩ ⟨(j 0).val % 8, by omega⟩

end Rows

/-! ## A masked scatter of the first eight lanes -/

section Scatter

theorem foldl_miss {ι β κ : Type} (p : κ → Prop) [DecidablePred p] (hit : κ → ι → Prop) [∀ k j, Decidable (hit k j)] (val : κ → β)
    (j : ι) (l : List κ) (h : ∀ k ∈ l, p k → ¬ hit k j) (f : ι → β) :
    l.foldl (fun g k => if p k then fun j => if hit k j then val k else g j else g) f j = f j := by
  induction l generalizing f with
  | nil => rfl
  | cons k l ih =>
    rw [List.foldl_cons, ih (fun k' hk' => h k' (List.mem_cons_of_mem _ hk'))]
    by_cases hp : p k
    · rw [if_pos hp, if_neg (h k (List.mem_cons_self ..) hp)]
    · rw [if_neg hp]

theorem foldl_hit {ι β κ : Type} (p : κ → Prop) [DecidablePred p] (hit : κ → ι → Prop) [∀ k j, Decidable (hit k j)] (val : κ → β)
    (j : ι) (l : List κ) (k₀ : κ) (hk₀ : k₀ ∈ l) (hp : p k₀) (hh : hit k₀ j) (h : ∀ k ∈ l, p k → hit k j → k = k₀) (f : ι → β) :
    l.foldl (fun g k => if p k then fun j => if hit k j then val k else g j else g) f j = val k₀ := by
  classical
  induction l generalizing f with
  | nil => cases hk₀
  | cons k l ih =>
    rw [List.foldl_cons]
    by_cases hin : k₀ ∈ l
    · exact ih hin (fun k' hk' => h k' (List.mem_cons_of_mem _ hk')) _
    · obtain rfl : k₀ = k := by
        rcases List.mem_cons.mp hk₀ with e | e
        · exact e
        · exact absurd e hin
      rw [foldl_miss p hit val j l (fun k' hk' hp' hh' => hin (h k' (List.mem_cons_of_mem _ hk') hp' hh' ▸ hk'))]
      rw [if_pos hp, if_pos hh]

theorem ofLane_eq (k : Fin 16) : (Shape.ofLane k : S16.Idx) = at16 k := by
  funext a
  fin_cases a
  rfl

theorem low8_at (k : Fin 16) : (low8 (at16 k) = 1) ↔ k.val < 8 := by
  revert k
  decide

variable {N : Nat} {e : EltTy}

/-- The scatter's target of a lane. -/
theorem target {N : Nat} (hN : N < 2 ^ 31) {r : Nat} (hr : 8 * r + 16 ≤ N) (k : Fin 16) :
    (addi (broadcast S16 (Scalar.muli (BitVec.ofNat 32 r) 8#32)) lanes (at16 k)).toNat = 8 * r + k.val := by
  show (BitVec.ofNat 32 r * 8#32 + lanes (at16 k)).toNat = _
  rw [lanes_at, BitVec.toNat_add, BitVec.toNat_mul, BitVec.toNat_ofNat, BitVec.toNat_ofNat, BitVec.toNat_ofNat]
  have := k.isLt
  omega

/-- A lane that is on and hits alone sets its element; -/
theorem storeIdx_hit {s : Shape} {d : Fin 1 → Nat} (f : Vec F s e) (idxs : Fin s.rank → IVec ⟨1, d⟩ 32) (v : Vec F ⟨1, d⟩ e)
    (mask : IVec ⟨1, d⟩ 1) (h : ∀ a x, (idxs a x).toNat < s.size a) (j : s.Idx) (k₀ : Fin (d 0))
    (hp : mask (Shape.ofLane k₀) = 1) (hh : ∀ a, (j a).val = (idxs a (Shape.ofLane k₀)).toNat)
    (hu : ∀ k, mask (Shape.ofLane k) = 1 → (∀ a, (j a).val = (idxs a (Shape.ofLane k)).toNat) → k = k₀) :
    storeIdx f idxs v mask false h j = v (Shape.ofLane k₀) := by
  unfold storeIdx
  simp only [Bool.false_eq_true, if_false]
  exact foldl_hit (fun k => mask (Shape.ofLane k) = 1) (fun k (j : s.Idx) => ∀ a, (j a).val = (idxAt idxs h (Shape.ofLane k) a).val)
    (fun k => v (Shape.ofLane k)) j (List.finRange (d 0)) k₀ (List.mem_finRange _) hp hh (fun k _ => hu k) f

/-- an element no lane hits stays. -/
theorem storeIdx_miss {s : Shape} {d : Fin 1 → Nat} (f : Vec F s e) (idxs : Fin s.rank → IVec ⟨1, d⟩ 32) (v : Vec F ⟨1, d⟩ e)
    (mask : IVec ⟨1, d⟩ 1) (h : ∀ a x, (idxs a x).toNat < s.size a) (j : s.Idx)
    (hu : ∀ k, mask (Shape.ofLane k) = 1 → ¬ ∀ a, (j a).val = (idxs a (Shape.ofLane k)).toNat) :
    storeIdx f idxs v mask false h j = f j := by
  unfold storeIdx
  simp only [Bool.false_eq_true, if_false]
  exact foldl_miss (fun k => mask (Shape.ofLane k) = 1) (fun k (j : s.Idx) => ∀ a, (j a).val = (idxAt idxs h (Shape.ofLane k) a).val)
    (fun k => v (Shape.ofLane k)) j (List.finRange (d 0)) (fun k _ => hu k) f

/-- Lanes `0 … 7` of `v` land at `8 r … 8 r + 7`, and nothing else changes. -/
theorem storeIdx_low8 (hN : N < 2 ^ 31) {r : Nat} (hr : 8 * r + 16 ≤ N) (f : Vec F ⟨1, ![N]⟩ e) (v : Vec F S16 e) (w : IVec S16 32)
    (hw : ∀ k : Fin 16, (w (at16 k)).toNat = 8 * r + k.val)
    (h : ∀ a x, ((![w] : Fin 1 → IVec S16 32) a x).toNat < (⟨1, ![N]⟩ : Shape).size a) (j : (⟨1, ![N]⟩ : Shape).Idx) :
    storeIdx f ![w] v low8 false h j
      = if hj : 8 * r ≤ (j 0).val ∧ (j 0).val < 8 * r + 8 then v (at16 ⟨(j 0).val - 8 * r, by omega⟩) else f j := by
  have hit_iff : ∀ k : Fin 16, (∀ a : Fin 1, (j a).val = ((![w] : Fin 1 → IVec S16 32) a (Shape.ofLane (d := ![16]) k)).toNat) ↔ (j 0).val = 8 * r + k.val := by
    intro k
    rw [← hw k, ← ofLane_eq k]
    constructor
    · intro ha; exact ha 0
    · intro ha a; rw [Fin.eq_zero a]; exact ha
  by_cases hj : 8 * r ≤ (j 0).val ∧ (j 0).val < 8 * r + 8
  · rw [dif_pos hj, ← ofLane_eq]
    refine storeIdx_hit (s := ⟨1, ![N]⟩) (d := ![16]) f ![w] v low8 h j ⟨(j 0).val - 8 * r, by show _ < 16; omega⟩ ?_ ((hit_iff _).mpr ?_) ?_
    · exact (congrArg low8 (ofLane_eq _)).trans ((low8_at ⟨(j 0).val - 8 * r, by omega⟩).mpr (by show (j 0).val - 8 * r < 8; omega))
    · show (j 0).val = 8 * r + ((j 0).val - 8 * r); omega
    · intro k _ hk
      have := (hit_iff k).mp hk
      exact Fin.ext (by show k.val = (j 0).val - 8 * r; omega)
  · rw [dif_neg hj]
    refine storeIdx_miss (s := ⟨1, ![N]⟩) (d := ![16]) f ![w] v low8 h j ?_
    intro k hp hk
    have h8 : k.val < 8 := (low8_at k).mp ((congrArg low8 (ofLane_eq k)).symm.trans hp)
    have := (hit_iff k).mp hk
    exact hj (by omega)

end Scatter

end Router
-- ==== Proof.BodyIdeal.lean ====
module

public import proofs.«01_k».proof.Proof.Lanes
public import proofs.«01_k».proof.Proof.Gen.KernelIdeal.Skeleton

/-! What the router's tile computes of one token: its pure parts are the arithmetic of `Lanes.lean`,
and its sorting loops are that arithmetic's selection sort. -/

@[expose] public section

noncomputable section

namespace Cert.Proof.KernelIdeal

open Cert.KernelIdeal Cert.KernelIdeal.Gen
open Idealize.SL Idealize.SL.Sem Idealize.ShloMosaic Idealize.ShloMosaic.StableHlo
open Router (rev sortK sortV highK highV mergeK mergeV lanes group tokK tokV low8 expo soft sortRounds sortStep at16)

variable {F : FTy → Type} [FloatOps F]

section Pays

/-- The sort's rounds as the loop states them. -/
def rounds (keys : Vec F S16 .f32) (vals : IVec S16 32) : IVec S16 32 × Vec F S16 .f32 × IVec S16 32 :=
  ((sortRounds keys vals 16).1, sortK keys vals, sortV keys vals)

theorem foldl_rounds (keys : Vec F S16 .f32) (vals : IVec S16 32) {n : Nat} (hn : n = 16) :
    (List.finRange n).foldl (fun c (k : Fin n) => sortStep keys vals (Scf.iv 0#32 1#32 k.val) c) (broadcast S16 1#32, keys, vals)
      = rounds keys vals := by
  subst hn
  simp only [Router.iv01]
  exact Router.sort_trips keys vals 16

theorem rev_a (v : Vec F S16 .f32) : k1_pay42 v lanes (k1_pay39 v) k1_pay40 (k1_pay41 v) = rev v := rfl
theorem rev_b (v : Vec F S16 .f32) : k1_pay54 v lanes (k1_pay53 v) = rev v := rfl
theorem rev_c (v : Vec F S16 .f32) : k1_pay66 v lanes (k1_pay64 v) k1_pay65 = rev v := rfl
theorem highK_a (a b : Vec F S16 .f32) : k1_pay47 a (rev b) = highK a b := rfl
theorem highV_a (a b : Vec F S16 .f32) (ai bi : IVec S16 32) :
    k1_pay48 a ai bi (rev b) lanes (k1_pay43 bi lanes 15#32) (k1_pay44 lanes) (extractAt ![0] (k1_pay45 bi) inpos_S1_p0)
      = highV a b ai bi := rfl
theorem highK_b (a b : Vec F S16 .f32) : k1_pay58 a (rev b) = highK a b := rfl
theorem highV_b (a b : Vec F S16 .f32) (ai bi : IVec S16 32) :
    k1_pay59 a ai bi (rev b) lanes (k1_pay56 bi lanes k1_pay55) = highV a b ai bi := rfl
theorem highK_c (a b : Vec F S16 .f32) : k1_pay72 a (rev b) = highK a b := rfl
theorem highV_c (a b : Vec F S16 .f32) (ai bi : IVec S16 32) :
    k1_pay73 a ai bi (rev b) lanes (k1_pay69 bi lanes k1_pay67 (extractAt ![0] (k1_pay68 bi) inpos_S1_p0)) k1_pay70
      = highV a b ai bi := rfl
theorem soft_a (m : IVec S16 1) (v : Vec F S16 .f32) :
    k1_pay81 (k1_pay79 m v (k1_pay78 v)) (k1_pay80 m v (k1_pay78 v)) = soft m v := rfl

end Pays

section Parts

variable (i : grid1.Coords) (arg2 : Memref sig .scVector .hbm S16384x64 .f32) (harg2 : arg2.IsWhole) (arg3 : Memref sig .scVector .hbm S131072 .f32) (harg3 : arg3.IsWhole) (arg4 : Memref sig .scVector .hbm S131072 .i32) (harg4 : arg4.IsWhole) (arg5 : Memref sig .scVector .vmem S512x64 .f32) (harg5 : arg5.IsWhole) (arg6 : Memref sig .scVector .vmem S4112 .f32) (harg6 : arg6.IsWhole) (arg7 : Memref sig .scVector .vmem S4112 .i32) (harg7 : arg7.IsWhole) (v9_r0 : DmaSems sig S_) (v9_r1 : DmaSems sig S_) (v9_r2 : DmaSems sig S_)

theorem loop_t2 (v3 : IVec S16 32) (c0 c1 : BitVec 32) (k1_t1 : Fin k1_t1_loop.trips) (x : Vec F S1x16 .f32) :
    Scf.Loop.for k1_t2_loop k1_t2_ok (k1_pay17, k1_pay15 x, k1_pay16 v3) (k1_t2_body i arg2 harg2 arg3 harg3 arg4 harg4 arg5 harg5 arg6 harg6 arg7 harg7 v9_r0 v9_r1 v9_r2 v3 c0 c1 k1_t1 x)
      = pure (rounds (k1_pay15 x) (k1_pay16 v3)) := by
  refine (Router.for_pure _ _ _ _ _ _ (fun k c => sortStep (k1_pay15 x) (k1_pay16 v3) (Scf.iv 0#32 1#32 k.val) c) (fun k c => rfl)).trans ?_
  exact congrArg pure (foldl_rounds _ _ (by decide))

theorem loop_t3 (v3 : IVec S16 32) (c0 c1 : BitVec 32) (k1_t1 : Fin k1_t1_loop.trips) (x : Vec F S1x16 .f32) :
    Scf.Loop.for k1_t3_loop k1_t3_ok (k1_pay23, k1_pay21 x, k1_pay22 v3) (k1_t3_body i arg2 harg2 arg3 harg3 arg4 harg4 arg5 harg5 arg6 harg6 arg7 harg7 v9_r0 v9_r1 v9_r2 v3 c0 c1 k1_t1 x)
      = pure (rounds (k1_pay21 x) (k1_pay22 v3)) := by
  refine (Router.for_pure _ _ _ _ _ _ (fun k c => sortStep (k1_pay21 x) (k1_pay22 v3) (Scf.iv 0#32 1#32 k.val) c) (fun k c => rfl)).trans ?_
  exact congrArg pure (foldl_rounds _ _ (by decide))

theorem loop_t4 (v3 : IVec S16 32) (c0 c1 : BitVec 32) (k1_t1 : Fin k1_t1_loop.trips) (x : Vec F S1x16 .f32) :
    Scf.Loop.for k1_t4_loop k1_t4_ok (k1_pay29, k1_pay27 x, k1_pay28 v3) (k1_t4_body i arg2 harg2 arg3 harg3 arg4 harg4 arg5 harg5 arg6 harg6 arg7 harg7 v9_r0 v9_r1 v9_r2 v3 c0 c1 k1_t1 x)
      = pure (rounds (k1_pay27 x) (k1_pay28 v3)) := by
  refine (Router.for_pure _ _ _ _ _ _ (fun k c => sortStep (k1_pay27 x) (k1_pay28 v3) (Scf.iv 0#32 1#32 k.val) c) (fun k c => rfl)).trans ?_
  exact congrArg pure (foldl_rounds _ _ (by decide))

theorem loop_t5 (u x : Vec F S16 .f32) (y : IVec S16 32) :
    Scf.Loop.for k1_t5_loop k1_t5_ok (k1_pay35, x, y) (k1_t5_body i arg2 harg2 arg3 harg3 arg4 harg4 arg5 harg5 arg6 harg6 arg7 harg7 v9_r0 v9_r1 v9_r2 u x y lanes k1_pay35 0#32)
      = pure (rounds (x) (y)) := by
  refine (Router.for_pure _ _ _ _ _ _ (fun k c => sortStep (x) (y) (Scf.iv 0#32 1#32 k.val) c) (fun k c => rfl)).trans ?_
  exact congrArg pure (foldl_rounds _ _ (by decide))

theorem loop_t6 (w x : Vec F S16 .f32) (y : IVec S16 32) :
    Scf.Loop.for k1_t6_loop k1_t6_ok (k1_pay49, x, y) (k1_t6_body i arg2 harg2 arg3 harg3 arg4 harg4 arg5 harg5 arg6 harg6 arg7 harg7 v9_r0 v9_r1 v9_r2 w x y lanes k1_pay49 0#32) = pure (rounds x y) := by
  refine (Router.for_pure _ _ _ _ _ _ (fun k c => sortStep x y (Scf.iv 0#32 1#32 k.val) c) (fun k c => rfl)).trans ?_
  exact congrArg pure (foldl_rounds _ _ (by decide))

theorem loop_t7 (a : Vec F S16 .f32) (ai bi : IVec S16 32) (r : FVec F S16 .f32) (p q : IVec S16 32) :
    Scf.Loop.for k1_t7_loop k1_t7_ok (k1_pay60, k1_pay58 a r, k1_pay59 a ai bi r p q) (k1_t7_body i arg2 harg2 arg3 harg3 arg4 harg4 arg5 harg5 arg6 harg6 arg7 harg7 v9_r0 v9_r1 v9_r2 a ai bi r p q)
      = pure (rounds (k1_pay58 a r) (k1_pay59 a ai bi r p q)) := by
  refine (Router.for_pure _ _ _ _ _ _ (fun k c => sortStep (k1_pay58 a r) (k1_pay59 a ai bi r p q) (Scf.iv 0#32 1#32 k.val) c) (fun k c => rfl)).trans ?_
  exact congrArg pure (foldl_rounds _ _ (by decide))

theorem loop_t8 (a : Vec F S16 .f32) (ai bi : IVec S16 32) (r : FVec F S16 .f32) (p q s : IVec S16 32) :
    Scf.Loop.for k1_t8_loop k1_t8_ok (k1_pay74, k1_pay72 a r, k1_pay73 a ai bi r p q s) (k1_t8_body i arg2 harg2 arg3 harg3 arg4 harg4 arg5 harg5 arg6 harg6 arg7 harg7 v9_r0 v9_r1 v9_r2 a ai bi r p q s)
      = pure (rounds (k1_pay72 a r) (k1_pay73 a ai bi r p q s)) := by
  refine (Router.for_pure _ _ _ _ _ _ (fun k c => sortStep (k1_pay72 a r) (k1_pay73 a ai bi r p q s) (Scf.iv 0#32 1#32 k.val) c) (fun k c => rfl)).trans ?_
  exact congrArg pure (foldl_rounds _ _ (by decide))

/-- The sixteen logits a register takes from one row of sixteen. -/
def row (x : Vec F S1x16 .f32) : Vec F S16 .f32 := shapeCast S16 x shapeCasts_S1x16_S16

theorem part8_eq (t : Fin k1_t1_loop.trips) :
    k1_part8 i arg2 harg2 arg3 harg3 arg4 harg4 arg5 harg5 arg6 harg6 arg7 harg7 v9_r0 v9_r1 v9_r2 lanes 0#32 1#32 t = (do
      let a : Vec F S1x16 .f32 ← Prog.lift (.load arg5 (Rect.unit (s := S512x64) (k1_off2 t) S1x16.size (k1_off2_inb t)).toLoadRect (View.loadsAt_vmem h_S1x16))
      let b : Vec F S1x16 .f32 ← Prog.lift (.load arg5 (Rect.unit (s := S512x64) (k1_off3 t) S1x16.size (k1_off3_inb t)).toLoadRect (View.loadsAt_vmem h_S1x16))
      let c : Vec F S1x16 .f32 ← Prog.lift (.load arg5 (Rect.unit (s := S512x64) (k1_off4 t) S1x16.size (k1_off4_inb t)).toLoadRect (View.loadsAt_vmem h_S1x16))
      let d : Vec F S1x16 .f32 ← Prog.lift (.load arg5 (Rect.unit (s := S512x64) (k1_off5 t) S1x16.size (k1_off5_inb t)).toLoadRect (View.loadsAt_vmem h_S1x16))
      pure ⟨Scf.iv 0#32 1#32 t, sortK (row a) (group 0#32), sortV (row a) (group 0#32), sortK (row b) (group 16#32), sortV (row b) (group 16#32), sortK (row c) (group 32#32), sortV (row c) (group 32#32), row d, group 48#32, lanes, k1_pay35, 0#32⟩) := by
  rw [k1_part8_eq_skeleton]
  unfold k1_part8_skel
  simp only [loop_t2, loop_t3, loop_t4]
  rfl

theorem part9_eq (u x : Vec F S16 .f32) (y : IVec S16 32) :
    k1_part9 i arg2 harg2 arg3 harg3 arg4 harg4 arg5 harg5 arg6 harg6 arg7 harg7 v9_r0 v9_r1 v9_r2 u x y lanes k1_pay35 0#32 = pure ⟨sortK x y, sortV x y, lanes, k1_pay39 u, k1_pay40, k1_pay41 u⟩ := by
  rw [k1_part9_eq_skeleton]
  unfold k1_part9_skel
  simp only [loop_t5]
  rfl
theorem part10_eq (u : Vec F S16 .f32) :
    k1_part10 i arg2 harg2 arg3 harg3 arg4 harg4 arg5 harg5 arg6 harg6 arg7 harg7 v9_r0 v9_r1 v9_r2 u lanes (k1_pay39 u) k1_pay40 (k1_pay41 u) = pure ⟨rev u, lanes, 15#32⟩ := rfl
theorem part11_eq (u : IVec S16 32) :
    k1_part11 (F := F) i arg2 harg2 arg3 harg3 arg4 harg4 arg5 harg5 arg6 harg6 arg7 harg7 v9_r0 v9_r1 v9_r2 u lanes 15#32
      = pure ⟨k1_pay43 u lanes 15#32, k1_pay44 lanes, extractAt ![0] (k1_pay45 u) inpos_S1_p0⟩ := rfl
theorem part12_eq (a b : Vec F S16 .f32) (ai bi : IVec S16 32) :
    k1_part12 i arg2 harg2 arg3 harg3 arg4 harg4 arg5 harg5 arg6 harg6 arg7 harg7 v9_r0 v9_r1 v9_r2 a ai bi (rev b) lanes (k1_pay43 bi lanes 15#32) (k1_pay44 lanes) (extractAt ![0] (k1_pay45 bi) inpos_S1_p0)
      = pure ⟨highK a b, highV a b ai bi, lanes, k1_pay49, 0#32⟩ := rfl
theorem part13_eq (w x : Vec F S16 .f32) (y : IVec S16 32) :
    k1_part13 i arg2 harg2 arg3 harg3 arg4 harg4 arg5 harg5 arg6 harg6 arg7 harg7 v9_r0 v9_r1 v9_r2 w x y lanes k1_pay49 0#32 = pure ⟨sortK x y, sortV x y, lanes, k1_pay53 w⟩ := by
  rw [k1_part13_eq_skeleton]
  unfold k1_part13_skel
  simp only [loop_t6]
  rfl
theorem part14_eq (w : Vec F S16 .f32) :
    k1_part14 i arg2 harg2 arg3 harg3 arg4 harg4 arg5 harg5 arg6 harg6 arg7 harg7 v9_r0 v9_r1 v9_r2 w lanes (k1_pay53 w) = pure ⟨rev w, lanes, k1_pay55⟩ := rfl
theorem part15_eq (w : IVec S16 32) :
    k1_part15 (F := F) i arg2 harg2 arg3 harg3 arg4 harg4 arg5 harg5 arg6 harg6 arg7 harg7 v9_r0 v9_r1 v9_r2 w lanes k1_pay55 = pure (k1_pay56 w lanes k1_pay55) := rfl
theorem part16_eq (a b : Vec F S16 .f32) (ai bi : IVec S16 32) :
    k1_part16 i arg2 harg2 arg3 harg3 arg4 harg4 arg5 harg5 arg6 harg6 arg7 harg7 v9_r0 v9_r1 v9_r2 a ai bi (rev b) lanes (k1_pay56 bi lanes k1_pay55)
      = pure ⟨sortK (highK a b) (highV a b ai bi), sortV (highK a b) (highV a b ai bi)⟩ := by
  rw [k1_part16_eq_skeleton]
  unfold k1_part16_skel
  simp only [loop_t7]
  rfl
theorem part17_eq (w : Vec F S16 .f32) : k1_part17 i arg2 harg2 arg3 harg3 arg4 harg4 arg5 harg5 arg6 harg6 arg7 harg7 v9_r0 v9_r1 v9_r2 w = pure ⟨lanes, k1_pay64 w, k1_pay65⟩ := rfl
theorem part18_eq (w : Vec F S16 .f32) (wi : IVec S16 32) :
    k1_part18 i arg2 harg2 arg3 harg3 arg4 harg4 arg5 harg5 arg6 harg6 arg7 harg7 v9_r0 v9_r1 v9_r2 w wi lanes (k1_pay64 w) k1_pay65
      = pure ⟨rev w, lanes, k1_pay67, extractAt ![0] (k1_pay68 wi) inpos_S1_p0⟩ := rfl
theorem part19_eq (wi : IVec S16 32) :
    k1_part19 (F := F) i arg2 harg2 arg3 harg3 arg4 harg4 arg5 harg5 arg6 harg6 arg7 harg7 v9_r0 v9_r1 v9_r2 wi lanes k1_pay67 (extractAt ![0] (k1_pay68 wi) inpos_S1_p0)
      = pure ⟨k1_pay69 wi lanes k1_pay67 (extractAt ![0] (k1_pay68 wi) inpos_S1_p0), k1_pay70⟩ := rfl
theorem part20_eq (a b : Vec F S16 .f32) (ai bi : IVec S16 32) :
    k1_part20 i arg2 harg2 arg3 harg3 arg4 harg4 arg5 harg5 arg6 harg6 arg7 harg7 v9_r0 v9_r1 v9_r2 a ai bi (rev b) lanes (k1_pay69 bi lanes k1_pay67 (extractAt ![0] (k1_pay68 bi) inpos_S1_p0)) k1_pay70
      = pure ⟨sortK (highK a b) (highV a b ai bi), sortV (highK a b) (highV a b ai bi), k1_pay78 (sortK (highK a b) (highV a b ai bi))⟩ := by
  rw [k1_part20_eq_skeleton]
  unfold k1_part20_skel
  simp only [loop_t8]
  rfl
theorem part21_eq (m : IVec S16 1) (v : Vec F S16 .f32) :
    k1_part21 i arg2 harg2 arg3 harg3 arg4 harg4 arg5 harg5 arg6 harg6 arg7 harg7 v9_r0 v9_r1 v9_r2 m v (k1_pay78 v) = pure ⟨k1_pay79 m v (k1_pay78 v), k1_pay80 m v (k1_pay78 v)⟩ := rfl

/-- One token: the four registers of its logits are read, and what they become is computed. -/
theorem part22_eq (t : Fin k1_t1_loop.trips) :
    k1_part22 i arg2 harg2 arg3 harg3 arg4 harg4 arg5 harg5 arg6 harg6 arg7 harg7 v9_r0 v9_r1 v9_r2 lanes k1_pay83 0#32 1#32 t = (do
      let a : Vec F S1x16 .f32 ← Prog.lift (.load arg5 (Rect.unit (s := S512x64) (k1_off2 t) S1x16.size (k1_off2_inb t)).toLoadRect (View.loadsAt_vmem h_S1x16))
      let b : Vec F S1x16 .f32 ← Prog.lift (.load arg5 (Rect.unit (s := S512x64) (k1_off3 t) S1x16.size (k1_off3_inb t)).toLoadRect (View.loadsAt_vmem h_S1x16))
      let c : Vec F S1x16 .f32 ← Prog.lift (.load arg5 (Rect.unit (s := S512x64) (k1_off4 t) S1x16.size (k1_off4_inb t)).toLoadRect (View.loadsAt_vmem h_S1x16))
      let d : Vec F S1x16 .f32 ← Prog.lift (.load arg5 (Rect.unit (s := S512x64) (k1_off5 t) S1x16.size (k1_off5_inb t)).toLoadRect (View.loadsAt_vmem h_S1x16))
      let hw ← Prog.lift (TpuEff.assume (k1_chk1 (k1_pay82 lanes (Scf.iv 0#32 1#32 t))) (k1_chk1.dec _))
      pure ⟨Scf.iv 0#32 1#32 t, tokV (row a) (row b) (row c) (row d), soft k1_pay83 (tokK (row a) (row b) (row c) (row d)), k1_pay82 lanes (Scf.iv 0#32 1#32 t), hw.down⟩) := by
  rw [k1_part22_eq_skeleton]
  unfold k1_part22_skel
  rw [part8_eq]
  simp only [bind_assoc, pure_bind, part9_eq, part10_eq, part11_eq, part12_eq, part13_eq, part14_eq, part15_eq, part16_eq, part17_eq, part18_eq, part19_eq,
    part20_eq, part21_eq]
  rfl

end Parts

end Cert.Proof.KernelIdeal
-- ==== Proof.TileIdeal.lean ====
/-
  The SparseCore call: what one vector subcore does with its 512 tokens, and how the thirty-two of them share the call's arrays.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Lanes
public import proofs.«01_k».proof.Proof.BodyIdeal

@[expose] public section

set_option maxRecDepth 16384
set_option warn.classDefReducibility false

noncomputable section

namespace Cert.Proof.KernelIdeal

open Cert.KernelIdeal Cert.KernelIdeal.Gen
open Router hiding S16 S1

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL

/-! ## The launch memory and the arrays of the call -/

variable (m : (ℓ : Loc nD τ sig) → Buf (Elt F) ℓ) (ρ : Dev nD → PrngReg)

/-- The logits and the two results, as locations of device `d`. -/
abbrev lLoc (d : Dev nD) : Loc nD τ sig := (SparseCore.T d).loc main_v1
abbrev oLoc (d : Dev nD) : Loc nD τ sig := (SparseCore.T d).loc main_v2_0
abbrev pLoc (d : Dev nD) : Loc nD τ sig := (SparseCore.T d).loc main_v2_1

local notation "lV" => (Memref.whole Cert.KernelIdeal.main_v1_scv : Memref Cert.KernelIdeal.sig Kind.scVector Space.hbm Cert.KernelIdeal.S16384x64 EltTy.f32)
local notation "oV" => (Memref.whole Cert.KernelIdeal.main_v2_0_scv : Memref Cert.KernelIdeal.sig Kind.scVector Space.hbm Cert.KernelIdeal.S131072 EltTy.f32)
local notation "pV" => (Memref.whole Cert.KernelIdeal.main_v2_1_scv : Memref Cert.KernelIdeal.sig Kind.scVector Space.hbm Cert.KernelIdeal.S131072 EltTy.i32)
local notation "sX" => (Memref.whole Cert.KernelIdeal.cc1_scratch0 : Memref Cert.KernelIdeal.sig Kind.scVector Space.vmem Cert.KernelIdeal.S512x64 EltTy.f32)
local notation "sO" => (Memref.whole Cert.KernelIdeal.cc1_scratch1 : Memref Cert.KernelIdeal.sig Kind.scVector Space.vmem Cert.KernelIdeal.S4112 EltTy.f32)
local notation "sP" => (Memref.whole Cert.KernelIdeal.cc1_scratch2 : Memref Cert.KernelIdeal.sig Kind.scVector Space.vmem Cert.KernelIdeal.S4112 EltTy.i32)

/-! ## The shares -/

theorem hdivL : 32 ∣ S16384x64.size 0 := ⟨512, rfl⟩
theorem hdivO : 32 ∣ S131072.size 0 := ⟨4096, rfl⟩
/-- Share `w` of the logits: 512 rows; -/
abbrev lPart (w : Fin 32) : Rect S16384x64 := Rect.part (s := S16384x64) (a₀ := 0) hdivL w
/-- and of a result: 4096 elements. -/
abbrev oPart (w : Fin 32) : Rect S131072 := Rect.part (s := S131072) (a₀ := 0) hdivO w
abbrev lSet (w : Fin 32) : Finset S16384x64.Idx := ((lV).view.slice (lPart w)).set
abbrev oSet (w : Fin 32) : Finset S131072.Idx := ((oV).view.slice (oPart w)).set

/-- The share of subcore `i` of SparseCore `c`. -/
abbrev share (c : Fin 2) (i : Fin 16) : Fin 32 := ⟨2 * i.val + c.val, by have := i.isLt; have := c.isLt; omega⟩

variable [FloatOps F]

-- the logits the call finds
variable (lg : (d : Dev nD) → FVec F S16384x64 .f32)

/-- What the call leaves: the scores, -/
def outS (d : Dev nD) : FVec F S131072 .f32 := scoresFlat (n := 16384) (N := 131072) rfl (lg d)
/-- and the experts. -/
def outI (d : Dev nD) : IVec S131072 32 := expertsFlat (n := 16384) (N := 131072) rfl (lg d)

/-- A subcore's share going in, -/
def goR (d : Dev nD) (w : Fin 32) : sProp (MM F) :=
  iprop((lLoc d ↦[lSet w]{fullShare} lg d) ∗ (oLoc d ↦[oSet w]{fullShare} m (oLoc d)) ∗ (pLoc d ↦[oSet w]{fullShare} m (pLoc d)))
/-- and coming back. -/
def tdR (d : Dev nD) (w : Fin 32) : sProp (MM F) :=
  iprop((lLoc d ↦[lSet w]{fullShare} lg d) ∗ (oLoc d ↦[oSet w]{fullShare} outS lg d) ∗ (pLoc d ↦[oSet w]{fullShare} outI lg d))

instance goR_storable (d : Dev nD) (w : Fin 32) : BI.Storable (upEmb : UEmb _ (MM F)) (goR m lg d w) := by unfold goR; infer_instance
instance tdR_storable (d : Dev nD) (w : Fin 32) : BI.Storable (upEmb : UEmb _ (MM F)) (tdR lg d w) := by unfold tdR; infer_instance

/-- The call hands each SparseCore the shares of its sixteen subcores, and they come back with the results. -/
def P : (K (F := F)).Pay (nD := nD) (Val := Elt F) (Name := ℕ) (U := UU) where
  st := fun q d c => match q with | 0 => bigSep Finset.univ fun i : Fin 16 => goR m lg d (share (Fin.cast nCore_zero c) i)
  dn := fun q d c => match q with | 0 => bigSep Finset.univ fun i : Fin 16 => tdR lg d (share (Fin.cast nCore_zero c) i)
  go := fun q d c i => match q with | 0 => goR m lg d (share (Fin.cast nCore_zero c) (Fin.cast nSub_zero i))
  td := fun q d c i => match q with | 0 => tdR lg d (share (Fin.cast nCore_zero c) (Fin.cast nSub_zero i))
  x := fun _ _ => iprop(emp)

instance P_storable : (P (F := F) m lg).IsStorable where
  st q d c := match q with | 0 => (inferInstance : BI.Storable (upEmb : UEmb _ (MM F)) (bigSep Finset.univ fun i : Fin 16 => goR m lg d (share (Fin.cast nCore_zero c) i)))
  dn q d c := match q with | 0 => (inferInstance : BI.Storable (upEmb : UEmb _ (MM F)) (bigSep Finset.univ fun i : Fin 16 => tdR lg d (share (Fin.cast nCore_zero c) i)))
  go q d c i := match q with | 0 => (inferInstance : BI.Storable (upEmb : UEmb _ (MM F)) (goR m lg d (share (Fin.cast nCore_zero c) (Fin.cast nSub_zero i))))
  td q d c i := match q with | 0 => (inferInstance : BI.Storable (upEmb : UEmb _ (MM F)) (tdR lg d (share (Fin.cast nCore_zero c) (Fin.cast nSub_zero i))))

theorem vecSplit : (K (F := F)).VecSplit' (P m lg) 0 := by
  intro d c
  show (bigSep Finset.univ fun i : Fin 16 => goR m lg d (share (Fin.cast nCore_zero c) i)) ⊢ |={Set.univ}=> iprop(
      (bigSep Finset.univ fun i : Fin 16 => goR m lg d (share (Fin.cast nCore_zero c) i))
      ∗ ((bigSep Finset.univ fun i : Fin 16 => tdR lg d (share (Fin.cast nCore_zero c) i))
          -∗ (bigSep Finset.univ fun i : Fin 16 => tdR lg d (share (Fin.cast nCore_zero c) i))))
  iintro H; imodintro
  isplitl [H]; · iexact H
  iintro H; iexact H

/-! ## One token -/

section Tile

variable (d : Dev nD) (L : grid1.Coords)

abbrev cV (L : grid1.Coords) : Fin τ.nSC := (L 0).castLE hcore1
abbrev jV (L : grid1.Coords) : Fin τ.nSub := (L 1).castLE hsub1

/-- The loop's body over the call's own buffers. -/
abbrev tokenBody (L : grid1.Coords) : Fin k1_t1_loop.trips → Unit → Prog (TpuEff nD τ sig (Elt F) Λ₀ (.scVector (cV L) (jV L))) Unit :=
  k1_t1_body L lV (Memref.isWhole_whole _) oV (Memref.isWhole_whole _) pV (Memref.isWhole_whole _)
    sX (Memref.isWhole_whole _) sO (Memref.isWhole_whole _) sP (Memref.isWhole_whole _) cc1_scoped0 cc1_scoped1 cc1_scoped2 lanes

/-- Before token `k`: the rows fetched, and the results of the tokens before `k` in the two scratches. -/
def tileInv (x : FVec F S512x64 .f32) (k : ℕ) (_ : Unit) : sProp (MM F) :=
  iprop(((sX).view.loc (V d (cV L) (jV L)) ↦{fullShare} x)
    ∗ (∃ f, ((sO).view.loc (V d (cV L) (jV L)) ↦{fullShare} f) ∗ ⌜∀ j : S4112.Idx, (j 0).val < 8 * k → f j = scoreAt x ⟨(j 0).val / 8 % 512, Nat.mod_lt _ (by decide)⟩ ⟨(j 0).val % 8, by omega⟩⌝)
    ∗ (∃ f, ((sP).view.loc (V d (cV L) (jV L)) ↦{fullShare} f) ∗ ⌜∀ j : S4112.Idx, (j 0).val < 8 * k → f j = expertAt x ⟨(j 0).val / 8 % 512, Nat.mod_lt _ (by decide)⟩ ⟨(j 0).val % 8, by omega⟩⌝))

theorem trips_eq : k1_t1_loop.trips = 512 := by decide

omit [FloatOps F] in
theorem trip_lt (k : Fin k1_t1_loop.trips) : k.val < 512 := lt_of_lt_of_eq k.isLt trips_eq

/-- Where lane `l` of a token's results goes. -/
theorem pay82_at (k : Fin k1_t1_loop.trips) (l : Fin 16) : (k1_pay82 lanes (Scf.iv 0#32 1#32 k) (at16 l)).toNat = 8 * k.val + l.val := by
  rw [iv01]
  exact target (N := 4112) (by decide) (by have := trip_lt k; omega) l

theorem chk_ok (k : Fin k1_t1_loop.trips) : ∀ (a : Fin 1) (x : S16.Idx), ((![k1_pay82 lanes (Scf.iv 0#32 1#32 k)] : Fin 1 → IVec S16 32) a x).toNat < S4112.size a := by
  intro a x
  obtain ⟨l, hl⟩ : ∃ l, at16 l = x := ⟨_, (at16_surj x).symm⟩
  subst hl
  rw [Fin.eq_zero a]
  show (k1_pay82 lanes (Scf.iv 0#32 1#32 k) (at16 l)).toNat < 4112
  rw [pay82_at]
  have := trip_lt k; have := l.isLt
  omega

/-- One trip: four pieces of the row loaded, the token's eight scores and eight experts put in the scratches. -/
theorem tokenBody_eq (k : Fin k1_t1_loop.trips) (acc : Unit) : tokenBody (F := F) L k acc = (do
    let a ← Prog.lift (.load sX (Rect.unit (s := S512x64) (k1_off2 k) S1x16.size (k1_off2_inb k)).toLoadRect (View.loadsAt_vmem h_S1x16))
    let b ← Prog.lift (.load sX (Rect.unit (s := S512x64) (k1_off3 k) S1x16.size (k1_off3_inb k)).toLoadRect (View.loadsAt_vmem h_S1x16))
    let c ← Prog.lift (.load sX (Rect.unit (s := S512x64) (k1_off4 k) S1x16.size (k1_off4_inb k)).toLoadRect (View.loadsAt_vmem h_S1x16))
    let d ← Prog.lift (.load sX (Rect.unit (s := S512x64) (k1_off5 k) S1x16.size (k1_off5_inb k)).toLoadRect (View.loadsAt_vmem h_S1x16))
    let h1 ← Prog.lift (TpuEff.assume (k1_chk1 (k1_pay82 lanes (Scf.iv 0#32 1#32 k))) (k1_chk1.dec _))
    SparseCore.vectorStoreIdx sO ![k1_pay82 lanes (Scf.iv 0#32 1#32 k)] (soft low8 (tokK (row a) (row b) (row c) (row d))) low8 false
      (k1_idx1_inb _ h1.down) (View.stores_vmem_bits_univ h_S4112 rfl)
    let h2 ← Prog.lift (TpuEff.assume (k1_chk2 (k1_pay82 lanes (Scf.iv 0#32 1#32 k))) (k1_chk2.dec _))
    SparseCore.vectorStoreIdx sP ![k1_pay82 lanes (Scf.iv 0#32 1#32 k)] (tokV (row a) (row b) (row c) (row d)) low8 false
      (k1_idx2_inb _ h2.down) (View.stores_vmem_bits_univ h_S4112 rfl)
    pure ⟨⟩) := by
  unfold tokenBody k1_t1_body
  simp only [part22_eq, bind_assoc, pure_bind]
  rfl

/-- A scatter into the scratch of scores, -/
theorem wp_putO {β : Type} (f : FVec F S4112 .f32) (w : IVec S16 32) (v : Vec F S16 .f32) (mk : IVec S16 1) (h : ∀ a x, ((![w] : Fin 1 → IVec S16 32) a x).toNat < S4112.size a)
    (hs : ((sO).access (.whole S4112)).Stores Finset.univ) (kk : PUnit → Prog (TpuEff nD τ sig (Elt F) Λ₀ (.scVector (cV L) (jV L))) β) (Q : β → sProp (MM F)) :
    ((sO).view.loc (V d (cV L) (jV L)) ↦{fullShare} f)
      ⊢ iprop((((sO).view.loc (V d (cV L) (jV L)) ↦{fullShare} storeIdx f ![w] v mk false h)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ (SparseCore.vectorStoreIdx (sO) ![w] v mk false h hs >>= kk) Q) := by
  have H := SparseCore.wp_vectorStoreIdx (defs := defs₀ (F := F)) 𝒱₀ (V d (cV L) (jV L)) none Set.univ (base := sO) (idxs := ![w]) (v := v) (mask := mk)
    (add := false) (h := h) (hs := hs) (k := kk) (f := f) (Q := Q)
  rw [Memref.set_access_whole cc1_scratch1, Memref.read_access_whole, Memref.write_access_whole_univ] at H
  exact H

/-- and one into the scratch of experts. -/
theorem wp_putP {β : Type} (f : IVec S4112 32) (w : IVec S16 32) (v : IVec S16 32) (mk : IVec S16 1) (h : ∀ a x, ((![w] : Fin 1 → IVec S16 32) a x).toNat < S4112.size a)
    (hs : ((sP).access (.whole S4112)).Stores Finset.univ) (kk : PUnit → Prog (TpuEff nD τ sig (Elt F) Λ₀ (.scVector (cV L) (jV L))) β) (Q : β → sProp (MM F)) :
    ((sP).view.loc (V d (cV L) (jV L)) ↦{fullShare} f)
      ⊢ iprop((((sP).view.loc (V d (cV L) (jV L)) ↦{fullShare} storeIdx (F := F) (e := .i32) f ![w] v mk false h)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ (SparseCore.vectorStoreIdx (sP) ![w] v mk false h hs >>= kk) Q) := by
  have H := SparseCore.wp_vectorStoreIdx (defs := defs₀ (F := F)) 𝒱₀ (V d (cV L) (jV L)) none Set.univ (base := sP) (idxs := ![w]) (v := v) (mask := mk)
    (add := false) (h := h) (hs := hs) (k := kk) (f := f) (Q := Q)
  rw [Memref.set_access_whole cc1_scratch2, Memref.read_access_whole, Memref.write_access_whole_univ] at H
  exact H

/-- A loaded piece is the row's register. -/
theorem row_piece (x : FVec F S512x64 .f32) (k : Fin k1_t1_loop.trips) (q : Fin 4) (off : Fin 2 → ℕ) (hoff : off = ![k.val, 16 * q.val])
    (hin : ∀ a, off a + S1x16.size a ≤ S512x64.size a) :
    row (View.readAt (Elt F) (sX).view (Rect.unit (s := S512x64) off S1x16.size hin).toLoadRect x) = reg (n := 512) x ⟨k.val, trip_lt k⟩ q := by
  subst hoff
  funext y
  refine (shapeCast_dropUnit_apply ![16] _ shapeCasts_S1x16_S16 y).trans ?_
  show x _ = x _
  refine congrArg x (funext fun a => Fin.ext ?_)
  match a with
  | 0 => show k.val + 1 * 0 = k.val; omega
  | 1 => show 16 * q.val + 1 * (y 0).val = 16 * q.val + (y 0).val; omega

/-- The scratch of scores after token `k`, -/
theorem put_scores (x : FVec F S512x64 .f32) (k : Fin k1_t1_loop.trips) (f : FVec F S4112 .f32)
    (hf : ∀ j : S4112.Idx, (j 0).val < 8 * k.val → f j = scoreAt (n := 512) x ⟨(j 0).val / 8 % 512, Nat.mod_lt _ (by decide)⟩ ⟨(j 0).val % 8, by omega⟩)
    (h : ∀ a y, ((![k1_pay82 lanes (Scf.iv 0#32 1#32 k)] : Fin 1 → IVec S16 32) a y).toNat < S4112.size a)
    (j : S4112.Idx) (hj : (j 0).val < 8 * (k.val + 1)) :
    storeIdx f ![k1_pay82 lanes (Scf.iv 0#32 1#32 k)] (soft low8 (tokK (reg (n := 512) x ⟨k.val, trip_lt k⟩ 0) (reg x ⟨k.val, trip_lt k⟩ 1) (reg x ⟨k.val, trip_lt k⟩ 2) (reg x ⟨k.val, trip_lt k⟩ 3))) low8 false h j
      = scoreAt (n := 512) x ⟨(j 0).val / 8 % 512, Nat.mod_lt _ (by decide)⟩ ⟨(j 0).val % 8, by omega⟩ := by
  have hk := trip_lt k
  refine (storeIdx_low8 (N := 4112) (e := .f32) (by decide) (r := k.val) (by omega) f _ _ (pay82_at k) h j).trans ?_
  by_cases hc : 8 * k.val ≤ (j 0).val ∧ (j 0).val < 8 * k.val + 8
  · rw [dif_pos hc]
    have e1 : (⟨(j 0).val / 8 % 512, Nat.mod_lt _ (by decide)⟩ : Fin 512) = ⟨k.val, hk⟩ := Fin.ext (by show (j 0).val / 8 % 512 = k.val; omega)
    have e2 : (⟨(j 0).val % 8, by omega⟩ : Fin 16) = ⟨(j 0).val - 8 * k.val, by omega⟩ := Fin.ext (by show (j 0).val % 8 = (j 0).val - 8 * k.val; omega)
    rw [e1, e2]
    rfl
  · rw [dif_neg hc]
    exact hf j (by omega)

/-- and that of experts. -/
theorem put_experts (x : FVec F S512x64 .f32) (k : Fin k1_t1_loop.trips) (f : IVec S4112 32)
    (hf : ∀ j : S4112.Idx, (j 0).val < 8 * k.val → f j = expertAt (n := 512) x ⟨(j 0).val / 8 % 512, Nat.mod_lt _ (by decide)⟩ ⟨(j 0).val % 8, by omega⟩)
    (h : ∀ a y, ((![k1_pay82 lanes (Scf.iv 0#32 1#32 k)] : Fin 1 → IVec S16 32) a y).toNat < S4112.size a)
    (j : S4112.Idx) (hj : (j 0).val < 8 * (k.val + 1)) :
    storeIdx (F := F) (e := .i32) f ![k1_pay82 lanes (Scf.iv 0#32 1#32 k)] (tokV (reg (n := 512) x ⟨k.val, trip_lt k⟩ 0) (reg x ⟨k.val, trip_lt k⟩ 1) (reg x ⟨k.val, trip_lt k⟩ 2) (reg x ⟨k.val, trip_lt k⟩ 3)) low8 false h j
      = expertAt (n := 512) x ⟨(j 0).val / 8 % 512, Nat.mod_lt _ (by decide)⟩ ⟨(j 0).val % 8, by omega⟩ := by
  have hk := trip_lt k
  refine (storeIdx_low8 (F := F) (N := 4112) (e := .i32) (by decide) (r := k.val) (by omega) f _ _ (pay82_at k) h j).trans ?_
  by_cases hc : 8 * k.val ≤ (j 0).val ∧ (j 0).val < 8 * k.val + 8
  · rw [dif_pos hc]
    have e1 : (⟨(j 0).val / 8 % 512, Nat.mod_lt _ (by decide)⟩ : Fin 512) = ⟨k.val, hk⟩ := Fin.ext (by show (j 0).val / 8 % 512 = k.val; omega)
    have e2 : (⟨(j 0).val % 8, by omega⟩ : Fin 16) = ⟨(j 0).val - 8 * k.val, by omega⟩ := Fin.ext (by show (j 0).val % 8 = (j 0).val - 8 * k.val; omega)
    rw [e1, e2]
    rfl
  · rw [dif_neg hc]
    exact hf j (by omega)

theorem tile_step (x : FVec F S512x64 .f32) (k : Fin k1_t1_loop.trips) (acc : Unit) :
    tileInv d L x k acc ⊢ wp frame (wpE (defs₀ (F := F)) 𝒱₀ (V d (cV L) (jV L)) none) Set.univ (tokenBody L k acc) (tileInv d L x (k.val + 1)) := by
  rw [tokenBody_eq]
  unfold tileInv
  iintro ⟨HX, ⟨%fo, HO, %hfo⟩, ⟨%fp, HP, %hfp⟩⟩
  have h1 := chk_ok k
  sl_exec (disch := exact h1)
  iapply (wp_putO d L fo _ _ _ _ _ _ _) $$ HO
  iintro HO
  sl_exec (disch := exact h1)
  iapply (wp_putP d L fp _ _ _ _ _ _ _) $$ HP
  iintro HP
  sl_step
  rw [row_piece x k 0 _ (k1_off2_eq k), row_piece x k 1 _ (k1_off3_eq k), row_piece x k 2 _ (k1_off4_eq k), row_piece x k 3 _ (k1_off5_eq k)]
  isplitl [HX]; · iexact HX
  isplitl [HO]
  · iexists _; isplitl [HO]; · iexact HO
    ipureintro; intro j hj; exact put_scores x k fo hfo _ j hj
  · iexists _; isplitl [HP]; · iexact HP
    ipureintro; intro j hj; exact put_experts x k fp hfp _ j hj

/-- The loop's invariant, over the rows fetched. -/
def tileLoop (x : FVec F S512x64 .f32) :
    LoopInv (M := MM F) frame (wpE (defs₀ (F := F)) 𝒱₀ (V d (cV L) (jV L)) none) Set.univ k1_t1_loop.lb k1_t1_loop.ub k1_t1_loop.st k1_t1_ok ⟨⟩
      (tokenBody (F := F) L) where
  inv := tileInv d L x
  step := tile_step d L x

/-! ## The task -/

abbrev cL (L : grid1.Coords) : Fin 2 := Fin.cast (show grid1.bound 0 = 2 from rfl) (L 0)
abbrev iL (L : grid1.Coords) : Fin 16 := Fin.cast (show grid1.bound 1 = 16 from rfl) (L 1)

abbrev lRect (L : grid1.Coords) : Rect S16384x64 := Rect.unit (s := S16384x64) (k1_off1 L) S512x64.size (k1_off1_inb L)
abbrev oRect (L : grid1.Coords) : Rect S131072 := Rect.unit (s := S131072) (k1_off6 L) S4096.size (k1_off6_inb L)
abbrev lRows (L : grid1.Coords) : Memref sig .scVector .hbm S512x64 .f32 := (lV).slice (lRect L) (fun _ => rfl)
abbrev oRows (L : grid1.Coords) : Memref sig .scVector .hbm S4096 .f32 := (oV).slice (oRect L) (fun _ => rfl)
abbrev pRows (L : grid1.Coords) : Memref sig .scVector .hbm S4096 .i32 := (pV).slice (oRect L) (fun _ => rfl)

omit [FloatOps F] in
theorem lRect_eq : lRect L = lPart (share (cL L) (iL L)) := by
  unfold lRect lPart Rect.part Rect.block
  congr 1 <;> funext a
  · rw [k1_off1_eq]
    match a with
    | 0 => show 1024 * (L 1).val + 512 * (L 0).val = (2 * (L 1).val + (L 0).val) * 512; omega
    | 1 => simp [Shape.partIx, Shape.partSize]
  · match a with
    | 0 => simp [Shape.partSize]
    | 1 => simp [Shape.partSize]
omit [FloatOps F] in
theorem oRect_eq : oRect L = oPart (share (cL L) (iL L)) := by
  unfold oRect oPart Rect.part Rect.block
  congr 1 <;> funext a
  · rw [k1_off6_eq]
    match a with
    | 0 => show 8192 * (L 1).val + 4096 * (L 0).val = (2 * (L 1).val + (L 0).val) * 4096; omega
  · match a with
    | 0 => simp [Shape.partSize]

omit [FloatOps F] in
theorem set_lRows : (lRows L).view.set = lSet (share (cL L) (iL L)) := by
  show ((lV).view.slice (lRect L)).set = ((lV).view.slice (lPart (share (cL L) (iL L)))).set
  exact lRect_eq L ▸ rfl
omit [FloatOps F] in
theorem set_oRows : (oRows L).view.set = oSet (share (cL L) (iL L)) := by
  show ((oV).view.slice (oRect L)).set = ((oV).view.slice (oPart (share (cL L) (iL L)))).set
  exact oRect_eq L ▸ rfl
omit [FloatOps F] in
theorem set_pRows : (pRows L).view.set = oSet (share (cL L) (iL L)) := by
  show ((pV).view.slice (oRect L)).set = ((oV).view.slice (oPart (share (cL L) (iL L)))).set
  exact oRect_eq L ▸ rfl

omit [FloatOps F] in
theorem pts_lRows (f : Buf (Elt F) (lLoc d)) :
    ((lRows L).view.loc (V d (cV L) (jV L)) ↦[(lRows L).view.set]{fullShare} f : sProp (MM F)) = lLoc d ↦[lSet (share (cL L) (iL L))]{fullShare} f := by
  rw [set_lRows]
omit [FloatOps F] in
theorem pts_oRows (f : Buf (Elt F) (oLoc d)) :
    ((oRows L).view.loc (V d (cV L) (jV L)) ↦[(oRows L).view.set]{fullShare} f : sProp (MM F)) = oLoc d ↦[oSet (share (cL L) (iL L))]{fullShare} f := by
  rw [set_oRows]
omit [FloatOps F] in
theorem pts_pRows (f : Buf (Elt F) (pLoc d)) :
    ((pRows L).view.loc (V d (cV L) (jV L)) ↦[(pRows L).view.set]{fullShare} f : sProp (MM F)) = pLoc d ↦[oSet (share (cL L) (iL L))]{fullShare} f := by
  rw [set_pRows]

omit [FloatOps F] in
theorem pts_sX (f : Buf (Elt F) ((V d (cV L) (jV L)).loc cc1_scratch0)) :
    ((sX).view.loc (V d (cV L) (jV L)) ↦{fullShare} f : sProp (MM F)) = (V d (cV L) (jV L)).loc cc1_scratch0 ↦{fullShare} f := rfl
omit [FloatOps F] in
theorem pts_sO (f : Buf (Elt F) ((V d (cV L) (jV L)).loc cc1_scratch1)) :
    ((sO).view.loc (V d (cV L) (jV L)) ↦{fullShare} f : sProp (MM F)) = (V d (cV L) (jV L)).loc cc1_scratch1 ↦{fullShare} f := rfl
omit [FloatOps F] in
theorem pts_sP (f : Buf (Elt F) ((V d (cV L) (jV L)).loc cc1_scratch2)) :
    ((sP).view.loc (V d (cV L) (jV L)) ↦{fullShare} f : sProp (MM F)) = (V d (cV L) (jV L)).loc cc1_scratch2 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

omit [FloatOps F] in
theorem ownSems0_V :
    (ownSems0 (V d (cV L) (jV L)) : sProp (MM F))
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

omit [FloatOps F] in
/-- The subcore's own buffers are the three scratches, each at some contents, together with the rest. -/
theorem ownBufs_V :
    (ownBufs (V d (cV L) (jV L)) : sProp (MM F))
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-- The rows a task fetches. -/
def fetched (d : Dev nD) (L : grid1.Coords) : FVec F S512x64 .f32 := (lRows L).view.read (Elt F) (lg d)

omit [FloatOps F] in
/-- Row `r` of what a task fetches is row `512 w + r` of the logits. -/
theorem fetched_at (r : Fin 512) (c : Fin 64) (r' : Fin 16384) (hr : r'.val = 1024 * (L 1).val + 512 * (L 0).val + r.val) :
    fetched lg d L (pt (n := 512) r c) = lg d (pt (n := 16384) r' c) := by
  show lg d _ = lg d _
  refine congrArg (lg d) (funext fun a => Fin.ext ?_)
  have e := k1_off1_eq L
  match a with
  | 0 => show k1_off1 L 0 + 1 * r.val = r'.val; rw [e, hr]; show 1024 * (L 1).val + 512 * (L 0).val + 1 * r.val = _; omega
  | 1 => show k1_off1 L 1 + 1 * c.val = c.val; rw [e]; show 0 + 1 * c.val = c.val; omega

/-- A task's share of the scores is what the call leaves there, -/
theorem scores_pts (f : FVec F S131072 .f32) (g : FVec F S4112 .f32)
    (hg : ∀ j : S4112.Idx, (j 0).val < 8 * k1_t1_loop.trips → g j = scoreAt (n := 512) (fetched lg d L) ⟨(j 0).val / 8 % 512, Nat.mod_lt _ (by decide)⟩ ⟨(j 0).val % 8, by omega⟩)
    (X : FVec F S4096 .f32) (hX : X = ((sO).slice (Rect.unit (s := S4112) ![0] S4096.size inb_S4112_S4096_0) (fun _ => rfl)).view.read (Elt F) g) :
    ((oRows L).view.loc (V d (cV L) (jV L)) ↦[(oRows L).view.set]{fullShare} (oRows L).view.writes (Elt F) f [⟨Rect.whole S4096, X⟩] : sProp (MM F))
      = oLoc d ↦[oSet (share (cL L) (iL L))]{fullShare} outS lg d := by
  rw [← pts_oRows]
  subst hX
  refine pointsTo_congr fun i hi => ?_
  obtain ⟨x, -, rfl⟩ := Finset.mem_map.mp hi
  rw [← View.write_univ_eq_writes_whole, View.write_emb_of_mem _ _ (Finset.mem_univ _)]
  have hx : (x 0).val < 4096 := (x 0).isLt
  have h0 : (L 0).val < 2 := (L 0).isLt
  have h1 : (L 1).val < 16 := (L 1).isLt
  have he : (((oRows L).view.emb x : S131072.Idx) 0).val = 8192 * (L 1).val + 4096 * (L 0).val + (x 0).val := by
    show k1_off6 L 0 + 1 * (x 0).val = _
    rw [k1_off6_eq]; show 8192 * (L 1).val + 4096 * (L 0).val + 1 * (x 0).val = _; omega
  let j : S4112.Idx := fun | 0 => ⟨(x 0).val, by show (x 0).val < 4112; omega⟩
  have hj : (j 0).val = (x 0).val := rfl
  refine Eq.trans (b := g j) ?_ ((hg j (by rw [trips_eq]; omega)).trans ?_)
  · refine (cast_eq _ _).trans ?_
    show g _ = g j
    refine congrArg g (funext fun a => Fin.ext ?_)
    match a with
    | 0 => show 0 + 1 * (x 0).val = (x 0).val; omega
  · show _ = scoreAt (n := 16384) (lg d) ⟨(((oRows L).view.emb x : S131072.Idx) 0).val / 8, _⟩ ⟨(((oRows L).view.emb x : S131072.Idx) 0).val % 8, _⟩
    have e2 : (⟨(j 0).val % 8, by omega⟩ : Fin 16) = ⟨(((oRows L).view.emb x : S131072.Idx) 0).val % 8, by omega⟩ :=
      Fin.ext (by show (j 0).val % 8 = (((oRows L).view.emb x : S131072.Idx) 0).val % 8; omega)
    rw [← e2]
    exact scoreAt_congr (fun c => fetched_at lg d L ⟨(j 0).val / 8 % 512, Nat.mod_lt _ (by decide)⟩ c ⟨(((oRows L).view.emb x : S131072.Idx) 0).val / 8, by omega⟩
      (by show (((oRows L).view.emb x : S131072.Idx) 0).val / 8 = 1024 * (L 1).val + 512 * (L 0).val + (j 0).val / 8 % 512; omega)) _

/-- and of the experts. -/
theorem experts_pts (f : IVec S131072 32) (g : IVec S4112 32)
    (hg : ∀ j : S4112.Idx, (j 0).val < 8 * k1_t1_loop.trips → g j = expertAt (n := 512) (fetched lg d L) ⟨(j 0).val / 8 % 512, Nat.mod_lt _ (by decide)⟩ ⟨(j 0).val % 8, by omega⟩)
    (X : IVec S4096 32) (hX : X = ((sP).slice (Rect.unit (s := S4112) ![0] S4096.size inb_S4112_S4096_0) (fun _ => rfl)).view.read (Elt F) g) :
    ((pRows L).view.loc (V d (cV L) (jV L)) ↦[(pRows L).view.set]{fullShare} (pRows L).view.writes (Elt F) f [⟨Rect.whole S4096, X⟩] : sProp (MM F))
      = pLoc d ↦[oSet (share (cL L) (iL L))]{fullShare} outI lg d := by
  rw [← pts_pRows]
  subst hX
  refine pointsTo_congr fun i hi => ?_
  obtain ⟨x, -, rfl⟩ := Finset.mem_map.mp hi
  rw [← View.write_univ_eq_writes_whole, View.write_emb_of_mem _ _ (Finset.mem_univ _)]
  have hx : (x 0).val < 4096 := (x 0).isLt
  have h0 : (L 0).val < 2 := (L 0).isLt
  have h1 : (L 1).val < 16 := (L 1).isLt
  have he : (((pRows L).view.emb x : S131072.Idx) 0).val = 8192 * (L 1).val + 4096 * (L 0).val + (x 0).val := by
    show k1_off6 L 0 + 1 * (x 0).val = _
    rw [k1_off6_eq]; show 8192 * (L 1).val + 4096 * (L 0).val + 1 * (x 0).val = _; omega
  let j : S4112.Idx := fun | 0 => ⟨(x 0).val, by show (x 0).val < 4112; omega⟩
  have hj : (j 0).val = (x 0).val := rfl
  refine Eq.trans (b := g j) ?_ ((hg j (by rw [trips_eq]; omega)).trans ?_)
  · refine (cast_eq _ _).trans ?_
    show g _ = g j
    refine congrArg g (funext fun a => Fin.ext ?_)
    match a with
    | 0 => show 0 + 1 * (x 0).val = (x 0).val; omega
  · show _ = expertAt (n := 16384) (lg d) ⟨(((pRows L).view.emb x : S131072.Idx) 0).val / 8, _⟩ ⟨(((pRows L).view.emb x : S131072.Idx) 0).val % 8, _⟩
    have e2 : (⟨(j 0).val % 8, by omega⟩ : Fin 16) = ⟨(((pRows L).view.emb x : S131072.Idx) 0).val % 8, by omega⟩ :=
      Fin.ext (by show (j 0).val % 8 = (((pRows L).view.emb x : S131072.Idx) 0).val % 8; omega)
    rw [← e2]
    exact expertAt_congr (fun c => fetched_at lg d L ⟨(j 0).val / 8 % 512, Nat.mod_lt _ (by decide)⟩ c ⟨(((pRows L).view.emb x : S131072.Idx) 0).val / 8, by omega⟩
      (by show (((pRows L).view.emb x : S131072.Idx) 0).val / 8 = 1024 * (L 1).val + 512 * (L 0).val + (j 0).val / 8 % 512; omega)) _

theorem tile_body (hF : (K (F := F)).Facts) (O : CellTallies nD τ sig (HIx 1)) (W : Waits sig (HIx 1)) (hO : ∀ g, O g none = 0) :
    iprop(levAts (K (F := F)).L (K (F := F)).lev ∗ emp
        ∗ goR m lg d (share (cL L) (iL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_topk L lV (Memref.isWhole_whole _) oV (Memref.isWhole_whole _) pV (Memref.isWhole_whole _)
            sX (Memref.isWhole_whole _) sO (Memref.isWhole_whole _) sP (Memref.isWhole_whole _) cc1_scoped0 cc1_scoped1 cc1_scoped2)
          fun _ => iprop(tdR lg d (share (cL L) (iL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold goR
  iintro ⟨#Hlv, -, ⟨Hl, Ho, Hp⟩, ⟨⟨%fx, HX⟩, ⟨%fo, HO⟩, ⟨%fp, HP⟩, Hbufs⟩, ⟨HsemA, HsemB, HsemC, Hsems⟩, HOw⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRows (F := F) d L _).symm) $$ Hl
  ihave Ho' := (Entails.of_eq (pts_oRows (F := F) d L _).symm) $$ Ho
  ihave Hp' := (Entails.of_eq (pts_pRows (F := F) d L _).symm) $$ Hp
  ihave HX' := (Entails.of_eq (pts_sX (F := F) d L _).symm) $$ HX
  ihave HO' := (Entails.of_eq (pts_sO (F := F) d L _).symm) $$ HO
  ihave HP' := (Entails.of_eq (pts_sP (F := F) d L _).symm) $$ HP
  rw [cc1_sc_topk_eq_skeleton]
  unfold cc1_sc_topk_skel
  rw [bind_pure_unit]
  rw [k1_part23_eq_skeleton]
  unfold k1_part23_skel
  sl_exec (disch := exact View.amount_pos _ _ (show 0 < S512x64.numel by decide))
  ihave HX := (Entails.of_eq (show _ = ((sX).view.loc (V d (cV L) (jV L)) ↦{fullShare} fetched lg d L : sProp (MM F)) from
    congrArg _ (View.write_whole_univ cc1_scratch0 _ _))) $$ HX'
  rw [show tile_body.sl.v3 = lanes from rfl]
  let Lp := tileLoop (F := F) d L (fetched lg d L)
  sl_exec (disch := exact View.amount_pos _ _ (show 0 < S4096.numel by decide))
  sl_step
  unfold tdR
  isplitl [Hl' Ho' Hp']
  · isplitl [Hl']; · iapply (Entails.of_eq (pts_lRows (F := F) d L _)); iexact Hl'
    isplitl [Ho']; · iapply (Entails.of_eq (scores_pts (F := F) lg d L _ fL0 hL2 _ rfl)); iexact Ho'
    iapply (Entails.of_eq (experts_pts (F := F) lg d L _ fL1 hL4 _ rfl)); iexact Hp'
  isplitl [HX HO' HP' Hbufs]
  · isplitl [HX]; · iexists _; iexact HX
    isplitl [HO']; · iexists _; iexact HO'
    isplitl [HP']; · iexists _; iexact HP'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HOw
  ipureintro; intro p _
  rcases p.2 with _ | q
  · exact .inr (.inl rfl)
  · exact .inr (.inr (congrArg some (Subsingleton.elim q 0)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_topk (coordsV c s)
          lV (Memref.isWhole_whole _) oV (Memref.isWhole_whole _) pV (Memref.isWhole_whole _)
          sX (Memref.isWhole_whole _) sO (Memref.isWhole_whole _) sP (Memref.isWhole_whole _) cc1_scoped0 cc1_scoped1 cc1_scoped2) ⟨⟩ c s := rfl

theorem tileObl (hF : (K (F := F)).Facts) : (K (F := F)).TileObl (D (F := F)) 𝒱 (P m lg) v₀ 0 := by
  intro d c i O W hO _ _
  simp only [show (P m lg).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m lg d (coordsV ⟨_, hci.1⟩ ⟨_, hci.2⟩) hF O W hO

end Tile

/-! ## The arrays split into the shares and join again -/

section Shares

omit [FloatOps F] in
theorem lSet_eq (w : Fin 32) : lSet w = (lPart w).set := by
  show ((View.whole (main_v1_scv : Ref sig .scVector)).slice (lPart w)).set = _
  rw [View.set_slice]; exact Finset.map_refl
omit [FloatOps F] in
theorem oSet_eq (w : Fin 32) : oSet w = (oPart w).set := by
  show ((View.whole (main_v2_0_scv : Ref sig .scVector)).slice (oPart w)).set = _
  rw [View.set_slice]; exact Finset.map_refl
omit [FloatOps F] in
theorem l_disjoint : ∀ i ∈ (Finset.univ : Finset (Fin 32)), ∀ j ∈ (Finset.univ : Finset (Fin 32)), i ≠ j → Disjoint (lSet i) (lSet j) :=
  fun i _ j _ h => by rw [lSet_eq, lSet_eq]; exact Rect.part_disjoint hdivL h
omit [FloatOps F] in
theorem o_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
omit [FloatOps F] in
theorem l_cover : (Finset.univ : Finset (Fin 32)).biUnion lSet = Finset.univ :=
  (Finset.biUnion_congr rfl fun i _ => lSet_eq i).trans (Rect.biUnion_part hdivL)
omit [FloatOps F] in
theorem o_cover : (Finset.univ : Finset (Fin 32)).biUnion oSet = Finset.univ :=
  (Finset.biUnion_congr rfl fun i _ => oSet_eq i).trans (Rect.biUnion_part hdivO)

omit [FloatOps F] in
theorem l_shares (d : Dev nD) (f : Buf (Elt F) (lLoc d)) :
    (lLoc d ↦{fullShare} f : sProp (MM F)) = bigSep Finset.univ fun w : Fin 32 => lLoc d ↦[lSet w]{fullShare} f := by
  rw [← pointsTo_biUnion Finset.univ (ℓ := lLoc d) lSet l_disjoint, l_cover]; try rfl
omit [FloatOps F] in
theorem o_shares (d : Dev nD) (f : Buf (Elt F) (oLoc d)) :
    (oLoc d ↦{fullShare} f : sProp (MM F)) = bigSep Finset.univ fun w : Fin 32 => oLoc d ↦[oSet w]{fullShare} f := by
  rw [← pointsTo_biUnion Finset.univ (ℓ := oLoc d) oSet o_disjoint, o_cover]; try rfl
omit [FloatOps F] in
theorem p_shares (d : Dev nD) (f : Buf (Elt F) (pLoc d)) :
    (pLoc d ↦{fullShare} f : sProp (MM F)) = bigSep Finset.univ fun w : Fin 32 => pLoc d ↦[oSet w]{fullShare} f := by
  rw [← pointsTo_biUnion Finset.univ (ℓ := pLoc d) oSet o_disjoint, o_cover]; try rfl

/-- The thirty-two shares, two SparseCores of sixteen. -/
def shares : Fin 2 × Fin 16 ≃ Fin 32 where
  toFun p := share p.1 p.2
  invFun w := (⟨w.val % 2, by omega⟩, ⟨w.val / 2, by have := w.isLt; omega⟩)
  left_inv p := Prod.ext (Fin.ext (by show (2 * p.2.val + p.1.val) % 2 = p.1.val; have := p.1.isLt; omega))
    (Fin.ext (by show (2 * p.2.val + p.1.val) / 2 = p.2.val; have := p.1.isLt; omega))
  right_inv w := Fin.ext (by show 2 * (w.val / 2) + w.val % 2 = w.val; omega)

omit [FloatOps F] in
theorem bigSep_shares (Φ : Fin 32 → sProp (MM F)) :
    bigSep Finset.univ Φ = bigSep Finset.univ fun c : Fin ((K (F := F)).nCore 0) => bigSep Finset.univ fun i : Fin 16 => Φ (share (Fin.cast nCore_zero c) i) := by
  rw [bigSep_univ_equiv shares, ← Finset.univ_product_univ, SparseCore.bigSep_product]
  rfl

theorem st_eq (d : Dev nD) :
    (bigSep Finset.univ fun c : Fin ((K (F := F)).nCore 0) => (P m lg).st 0 d c)
      = iprop((lLoc d ↦{fullShare} lg d) ∗ (oLoc d ↦{fullShare} m (oLoc d)) ∗ (pLoc d ↦{fullShare} m (pLoc d))) := by
  refine (bigSep_shares (fun w => goR m lg d w)).symm.trans ?_
  unfold goR
  rw [bigSep_sep', bigSep_sep', ← l_shares, ← o_shares, ← p_shares]
theorem dn_eq (d : Dev nD) :
    (bigSep Finset.univ fun c : Fin ((K (F := F)).nCore 0) => (P m lg).dn 0 d c)
      = iprop((lLoc d ↦{fullShare} lg d) ∗ (oLoc d ↦{fullShare} outS lg d) ∗ (pLoc d ↦{fullShare} outI lg d)) := by
  refine (bigSep_shares (fun w => tdR lg d w)).symm.trans ?_
  unfold tdR
  rw [bigSep_sep', bigSep_sep', ← l_shares, ← o_shares (F := F) d (outS lg d), ← p_shares (F := F) d (outI lg d)]

end Shares

end Cert.Proof.KernelIdeal

end
-- ==== Proof.MatmulIdeal.lean ====
/-
  The TensorCore call: what each block of the matrix product holds, and the call's proof data.
-/
module

public import proofs.«01_k».proof.Proof.TileIdeal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays
public import Idealize.ShloMosaic.Lib.Claim
public import Idealize.ShloMosaic.Lib.Ring
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The arrays as the call finds them -/

abbrev opT : HloOp τ sig (Elt F) := StableHlo.unary main_arg1 main_v0 ((transpose S4096x64 [1, 0] · transposes_S64x4096_S4096x64_1_0) : (⟨S64x4096, .f32⟩ : BufTy).Contents (Elt F) → (⟨S4096x64, .f32⟩ : BufTy).Contents (Elt F))

/-- The launch valuation; -/
def V0 (d : Dev nD) : Valuation τ sig (Elt F) := fun b => m (d, b)
/-- after the transposition. -/
def V1 (d : Dev nD) : Valuation τ sig (Elt F) := (opT (F := F)).result (V0 m d)
/-- The TensorCore's buffers then. -/
def Vr (d : Dev nD) (b : Ref sig .tc) : Buf (Elt F) ((d : Thread nD τ).loc b) := V1 m d (Proc.devRef .tc b)

theorem Vr_v0 (d : Dev nD) : Vr m d main_v0 = transpose S4096x64 [1, 0] (m ((d : Thread nD τ).loc main_arg1)) transposes_S64x4096_S4096x64_1_0 :=
  (StableHlo.unary_result main_arg1 main_v0 _ _ _ (V0 m d) : (opT (F := F)).result (V0 m d) (Proc.devRef .tc main_v0) = _)
theorem Vr_ne (d : Dev nD) (b : Ref sig .tc) (h : b ≠ main_v0) : Vr m d b = m ((d : Thread nD τ).loc b) :=
  (StableHlo.unary_result_ne (x := main_arg1) (y := main_v0) _ _ _ (V0 m d) h : (opT (F := F)).result (V0 m d) (Proc.devRef .tc b) = _)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (Vr m c (Pipeline.arrRef spec0 w))

/-! ## The body's accesses -/

abbrev r0_0 : Rect S512x4096 := Rect.unit (s := S512x4096) ![0, 0] S512x4096.size inb_S512x4096_S512x4096_0_0
abbrev r0_1 : Rect S4096x64 := Rect.unit (s := S4096x64) ![0, 0] S4096x64.size inb_S4096x64_S4096x64_0_0
abbrev r0_2 : Rect S512x64 := Rect.unit (s := S512x64) ![0, 0] S512x64.size inb_S512x64_S512x64_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S512x4096 .f32) (x1 : Vec F S4096x64 .f32) : Vec F S512x64 .f32 :=
  View.canon [⟨r0_2, k0_pay1 (View.ld x0 r0_0) (View.ld x1 r0_1)⟩]

/-- Its stores tile the buffer (checked by evaluation), so they cover it. -/
theorem cover0_2 (p0 : Vec F S512x64 .f32) (y : S512x64.Idx) :
    ∃ pc ∈ ([⟨r0_2, p0⟩] : List (View.Piece (Elt F) S512x64 .f32)), y ∈ pc.1.set :=
  View.cover_of_tiled [⟨r0_2, p0⟩] S512x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x4096 .f32) (harg1 : arg1.IsWhole) (arg2 : Memref sig .tc .vmem S4096x64 .f32) (harg2 : arg2.IsWhole) (arg3 : Memref sig .tc .vmem S512x64 .f32) (harg3 : arg3.IsWhole)
    (x0 : Vec F S512x4096 .f32) (x1 : Vec F S4096x64 .f32) (K : PUnit → sProp (MM F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp Idealize.ShloMosaic.frame (wpE (defs₀ (F := F)) Variants.none c none) E (cc0__gate_matmul_block i arg1 harg1 arg2 harg2 arg3 harg3) K := by
  simp only [cc0__gate_matmul_block_eq_skeleton]; unfold cc0__gate_matmul_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data -/

/-- The pairs the core may have recorded: those at the lowest level. -/
def lowPairs (c : Dev nD) : Set (SemLoc sig × HIx 1) := {p | (K (F := F)).lev (T c, p.1) p.2 ≤ 0}

/-- The core owes the SparseCores their starts throughout. -/
def dats (_ : Fin 1) (c : Dev nD) : Dat τ (Elt F) (HIx 1) ℕ UU ℕ cfg0 c where
  A w := Vr m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q _ := fullShare
  owed _ := (K (F := F)).Otc c 0
  recorded _ := lowPairs (F := F) c

theorem A_eq (c : Dev nD) (w : Fin cfg0.W) : (dats m 0 c).A w = Vr m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp (MM F) :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp (MM F) :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the invariant and
    the core's `owes` pass through unread. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt none t.succ = (dats m 0 c).owesAt none t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

/-! ## The array the call leaves -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 32 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S16384x64.Idx) (h : ∀ t : Fin cfg0.N, (cfg0.win 2).flush t = true → i ∉ ((cfg0.win 2).blk t).view.set) :
    (dats m 0 c).arrAt 2 cfg0.N i = Vr m c (Pipeline.arrRef spec0 2) i := by
  rw [(dats m 0 c).arrAt_apply_of_forall_not_mem 2 cfg0.N i (fun t _ hf => h t hf), A_eq]

/-- The logits. -/
def lg (d : Dev nD) : FVec F S16384x64 .f32 := (dats m 0 d).arrAt 2 cfg0.N

end Cert.Proof.KernelIdeal

end
-- ==== Proof.LaunchIdeal.lean ====
/-
  The whole program: the transposition, the matrix product on the TensorCore, the selection on the SparseCores, the two reshapes.
-/
module

public import proofs.«01_k».proof.Proof.MatmulIdeal

@[expose] public section

set_option maxRecDepth 16384
set_option warn.classDefReducibility false

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The pipeline's share of the resource algebra -/

def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

abbrev adm : (p : Fin 1) → (pcfgs (F := F) p).Adm := fun p => (cfgs p).toPCfg_adm

/-! ## The matrix product as one step of @main -/

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h)
  simp [SparseCore.Cfg.lev] at this

/-- What the core owes, its recorded waits at the lowest level. -/
abbrev owing (d : Dev nD) : sProp (MM F) := iprop(∃ W, ⌜(K (F := F)).WBelow (SparseCore.T d) W (8 * SparseCore.Cfg.Blocks.fst (Q := 1) (N := 1) 0)⌝ ∗ owes (SparseCore.T d) ((K (F := F)).Otc d 0) W)

set_option backward.isDefEq.respectTransparency.types false in
def reg0 : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ _ _ _ _ fun w s t => (K (F := F)).mayWait_none _ (Otc_none (F := F) c 0)
  pre c := iprop(unscopedBufs c (Vr m c) ∗ owing (F := F) c)
  post c := iprop((dats m 0 c).arrays ((dats m 0 c).arrAt · cfg0.N) ∗ Pipeline.unscopedRest spec0 c (Vr m c) ∗ owing (F := F) c)
  X c := iprop(emp)
  Y c := iprop(emp)
  Z c := Pipeline.unscopedRest spec0 c (Vr m c)
  hentry c := by
    rw [Pipeline.ownSems0_none, Pipeline.prefHeld_of_none _ rfl]
    have hsplit := (Pipeline.arrays_of_unscopedBufs (pcfgs (F := F)) adm (dats m) launch0.win launch0.arr_whole c
      ((dats m 0 c).share_full fun _ => rfl) (Vr m c) (A_eq m c))
    iintro ⟨⟨Hub, ⟨%W, %hW, HO⟩⟩, -, -⟩
    ihave H := hsplit $$ Hub
    icases H with ⟨Ha, Hr⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr; · iempintro
    iexact Hr
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩; iexists W
    isplitr
    · ipureintro
      intro p hp
      rcases hW hp with h | ⟨w, s, h⟩
      · exact h
      · rw [h]; exact le_rfl
    iexact HO

/-- The pipeline's ghost state on device `d`. -/
abbrev ghost (d : Dev nD) : sProp (MM F) := iprop(Pipeline.cellsGhost (Pipeline.pin (pcfgs (F := F)) adm) EP 0 d ∗ Pipeline.toksInit (Pipeline.pin (pcfgs (F := F)) adm) EP 0 d)

theorem pinj : Function.Injective (Pipeline.cellOf (nD := nD) (τ := τ) (Pipeline.pin (pcfgs (F := F)) adm)) := cellOf_inj

/-- The call of the pipeline, as a program of the pipeline's own labels. -/
abbrev enter : Prog (TpuEff nD τ sig (Elt F) (ΛP (F := F)) .tc) PUnit := .op (.customCall (Pipeline.entry 0) ()) .ret

set_option backward.isDefEq.respectTransparency.types false in
theorem enter_wp [∀ e, Nonempty (Elt F e)] (d : Dev nD) (Q : PUnit → sProp (MM F)) :
    iprop((iprop(boundary (SparseCore.T d) ∗ (reg0 m).post d) -∗ wp Idealize.ShloMosaic.frame (wpE (D (F := F)) 𝒱 (SparseCore.T d) none) Set.univ (.ret ⟨⟩) Q)
        ∗ boundary (SparseCore.T d) ∗ (unscopedBufs d (Vr m d) ∗ owing (F := F) d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp Idealize.ShloMosaic.frame (wpE (D (F := F)) 𝒱 (SparseCore.T d) none) Set.univ (enter (F := F)) Q :=
  Pipeline.RegionSeg.wp (pcfgs (F := F)) adm (dats m) none pinj EP defs₀ 𝒱₀ (K (F := F)).L (K (F := F)).lev (reg0 m) d none (fun _ h => nomatch h) _ Q

theorem lift_enter : (SparseCore.liftProg (Q := 1) (enter (F := F))) = Prog.lift (.customCall (SparseCore.inner (Pipeline.entry 0)) ()) := rfl

theorem region [∀ e, Nonempty (Elt F e)] (d : Dev nD) (Q : PUnit → sProp (MM F)) :
    iprop((iprop(boundary (SparseCore.T d) ∗ (reg0 m).post d) -∗ Q ⟨⟩) ∗ boundary (SparseCore.T d) ∗ (unscopedBufs d (Vr m d) ∗ owing (F := F) d) ∗ levAts (K (F := F)).L (K (F := F)).lev ∗ ghost (F := F) d)
      ⊢ wp Idealize.ShloMosaic.frame (wpE ((K (F := F)).defs (D (F := F))) 𝒱 (SparseCore.T d) none) Set.univ (Prog.lift (.customCall (SparseCore.inner (Pipeline.entry 0)) ())) Q := by
  rw [← lift_enter]
  iintro ⟨Hk, Hb, Hp, Hl, Hgc, Hgt⟩
  iapply ((K (F := F)).wp_liftProg (D (F := F)) 𝒱 (SparseCore.T d) Set.univ none (enter (F := F)) Q)
  iapply (enter_wp m d Q)
  isplitl [Hk]
  · iintro H; rw [wp_ret]; imodintro; iapply Hk; iexact H
  isplitl [Hb]; · iexact Hb
  isplitl [Hp]; · iexact Hp
  isplitl [Hl]; · iexact Hl
  isplitl [Hgc]; · iexact Hgc
  iexact Hgt

/-! ## The launch element -/

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

omit [FloatOps F] in
theorem ownU_split (a : UH) (b : UP) : (ownU ((a, (b, 1)) : UU) : sProp (MM F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem ghost_eq : iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c))
    = (bigSep Finset.univ fun d : Dev nD => ghost (F := F) d) := by
  unfold ghost
  rw [bigSep_sep']
  congr 1
  · exact bigSep_congr fun c _ => bigSep_univ_of_subsingleton (0 : Fin 1)
  · exact bigSep_congr fun c _ => bigSep_univ_of_subsingleton (0 : Fin 1)

theorem x_eq : (bigSep Finset.univ fun thr : Thread nD τ => bigSep Finset.univ fun q : Fin 1 => (P (F := F) m (lg m)).x q thr) = (iprop(emp) : sProp (MM F)) :=
  (bigSep_congr fun _ _ => bigSep_univ_of_subsingleton (0 : Fin 1)).trans (bigSep_emp_const _)

theorem hu₀ : (ownU (u₀ (F := F)) : sProp (MM F))
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m (lg m)).x q thr) := by
  unfold u₀
  iintro Hu
  ihave H := (ownU_split _ _) $$ Hu
  icases H with ⟨HH, HP⟩
  imod (Pipeline.fund_ghost (Pipeline.pin (pcfgs (F := F)) adm) EP pinj) $$ HP with HG
  ihave HG' := (Entails.of_eq (ghost_eq (F := F))) $$ HG
  imodintro
  isplitl [HH]; · iexact HH
  isplitl [HG']; · iexact HG'
  rw [x_eq]
  iempintro

/-! ## @main -/

abbrev a0' : DevRef τ sig := Proc.devRef .tc (main_arg0 : Ref sig .tc)
abbrev a1' : DevRef τ sig := Proc.devRef .tc (main_arg1 : Ref sig .tc)
abbrev t0' : DevRef τ sig := Proc.devRef .tc (main_v0 : Ref sig .tc)
abbrev l' : DevRef τ sig := Proc.devRef .tc (main_v1 : Ref sig .tc)
abbrev o' : DevRef τ sig := Proc.devRef .tc (main_v2_0 : Ref sig .tc)
abbrev p' : DevRef τ sig := Proc.devRef .tc (main_v2_1 : Ref sig .tc)
abbrev r3' : DevRef τ sig := Proc.devRef .tc (main_v3 : Ref sig .tc)
abbrev r4' : DevRef τ sig := Proc.devRef .tc (main_v4 : Ref sig .tc)

abbrev op3 : HloOp τ sig (Elt F) := StableHlo.reshape main_v2_0 main_v3 (rfl : (.f32 : EltTy) = .f32) shapeCasts_S131072_S16384x8
abbrev op4 : HloOp τ sig (Elt F) := StableHlo.reshape main_v2_1 main_v4 (rfl : (.i32 : EltTy) = .i32) shapeCasts_S131072_S16384x8

abbrev S8 : Finset (DevRef τ sig) := {a0', a1', t0', l', o', p', r3', r4'}
abbrev S4 : Finset (DevRef τ sig) := {o', p', r3', r4'}

omit [FloatOps F] in
theorem unscoped_held (d : Dev nD) (W : Valuation τ sig (Elt F)) : (unscopedBufs d (fun b => W (Proc.devRef .tc b)) : sProp (MM F)) = held (SparseCore.T d) S8 W := by
  unfold unscopedBufs held S8
  rw [show (Finset.univ.filter fun b : Ref sig .tc => ¬ b.isScoped) = {main_arg0, main_arg1, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
omit [FloatOps F] in
theorem held_S4 (d : Dev nD) (W : Valuation τ sig (Elt F)) :
    (held (SparseCore.T d) S4 W : sProp (MM F)) = iprop((oLoc d ↦{fullShare} W o') ∗ (pLoc d ↦{fullShare} W p') ∗ ((SparseCore.T d).loc main_v3 ↦{fullShare} W r3') ∗ (SparseCore.T d).loc main_v4 ↦{fullShare} W r4') := by
  unfold held S4
  rw [SparseCore.bigSep_insert' (by decide), SparseCore.bigSep_insert' (by decide), SparseCore.bigSep_insert' (by decide), bigSep_singleton]

/-- The results. -/
def R3 (d : Dev nD) : FVec F S16384x8 .f32 := shapeCast S16384x8 (outS (lg m) d) shapeCasts_S131072_S16384x8
def R4 (d : Dev nD) : IVec S16384x8 32 := shapeCast S16384x8 (outI (lg m) d) shapeCasts_S131072_S16384x8

/-- After the SparseCore call. -/
def V2 (d : Dev nD) : Valuation τ sig (Elt F) := Function.update (Function.update (V1 m d) o' (outS (lg m) d)) p' (outI (lg m) d)

theorem V2_o (d : Dev nD) : V2 m d o' = outS (lg m) d := (Function.update_of_ne (show o' ≠ p' by decide) _ _).trans (Function.update_self _ _ _)
theorem V2_p (d : Dev nD) : V2 m d p' = outI (lg m) d := Function.update_self _ _ _
theorem V2_r3 (d : Dev nD) : V2 m d r3' = Vr m d main_v3 := (Function.update_of_ne (show r3' ≠ p' by decide) _ _).trans (Function.update_of_ne (show r3' ≠ o' by decide) _ _)
theorem V2_r4 (d : Dev nD) : V2 m d r4' = Vr m d main_v4 := (Function.update_of_ne (show r4' ≠ p' by decide) _ _).trans (Function.update_of_ne (show r4' ≠ o' by decide) _ _)

theorem h3 : (op3 (F := F)).bufs ⊆ S4 := show ({o', r3'} : Finset (DevRef τ sig)) ⊆ S4 by decide
theorem h4 : (op4 (F := F)).bufs ⊆ S4 := show ({p', r4'} : Finset (DevRef τ sig)) ⊆ S4 by decide
theorem hT : (opT (F := F)).bufs ⊆ S8 := show ({a1', t0'} : Finset (DevRef τ sig)) ⊆ S8 by decide

theorem end_r4 (d : Dev nD) : (op4 (F := F)).result ((op3 (F := F)).result (V2 m d)) r4' = R4 m d :=
  (StableHlo.reshape_result main_v2_1 main_v4 _ _ _ _ _).trans (by
    rw [(op3 (F := F)).result_of_not_mem _ (show p' ∉ ({r3'} : Finset (DevRef τ sig)) by decide), V2_p]; rfl)
theorem end_r3 (d : Dev nD) : (op4 (F := F)).result ((op3 (F := F)).result (V2 m d)) r3' = R3 m d := by
  rw [(op4 (F := F)).result_of_not_mem _ (show r3' ∉ ({r4'} : Finset (DevRef τ sig)) by decide)]
  refine (StableHlo.reshape_result main_v2_0 main_v3 _ _ _ _ _).trans ?_
  rw [V2_o]; rfl

theorem end_held (d : Dev nD) : (held (SparseCore.T d) S4 ((op4 (F := F)).result ((op3 (F := F)).result (V2 m d))) : sProp (MM F))
    ⊢ iprop(((SparseCore.T d).loc main_v3 ↦{fullShare} R3 m d) ∗ ((SparseCore.T d).loc main_v4 ↦{fullShare} R4 m d)) := by
  rw [held_S4, end_r3, end_r4]
  iintro ⟨-, -, H3, H4⟩
  isplitl [H3] <;> iassumption

theorem pt_arg0 (d : Dev nD) : Pipeline.Dat.arrAt (dats m 0 d) 0 cfg0.N = m ((SparseCore.T d).loc main_arg0) :=
  ((dats m 0 d).arrAt_in 0 rfl _).trans ((A_eq m d 0).trans (Vr_ne m d main_arg0 (by decide)))

/-- What the matrix product leaves, buffer by buffer. -/
theorem post_split (d : Dev nD) : (reg0 m).post d ⊢ iprop((((SparseCore.T d).loc main_arg0 ↦{fullShare} m ((SparseCore.T d).loc main_arg0)) ∗ (lLoc d ↦{fullShare} lg m d)
      ∗ ((SparseCore.T d).loc main_arg1 ↦{fullShare} m ((SparseCore.T d).loc main_arg1)) ∗ (oLoc d ↦{fullShare} m (oLoc d)) ∗ (pLoc d ↦{fullShare} m (pLoc d))
      ∗ ((SparseCore.T d).loc main_v3 ↦{fullShare} Vr m d main_v3) ∗ ((SparseCore.T d).loc main_v4 ↦{fullShare} Vr m d main_v4)) ∗ owing (F := F) d) := by
  show iprop((dats m 0 d).arrays ((dats m 0 d).arrAt · cfg0.N) ∗ Pipeline.unscopedRest spec0 d (Vr m d) ∗ owing (F := F) d) ⊢ _
  rw [Pipeline.arrays_eq cfgs (dats m) 0 d launch0.arr_whole ((dats m 0 d).share_full fun _ => rfl), bigSep_W0, unscopedRest0_eq, pt_arg0 m d,
    Vr_ne m d main_arg1 (by decide), Vr_ne m d main_v2_0 (by decide), Vr_ne m d main_v2_1 (by decide)]
  iintro ⟨⟨H0, -, Hl⟩, ⟨H1, Ho, Hp, H3, H4⟩, HO⟩
  isplitr [HO]
  · isplitl [H0]; · iexact H0
    isplitl [Hl]; · iexact Hl
    isplitl [H1]; · iexact H1
    isplitl [Ho]; · iexact Ho
    isplitl [Hp]; · iexact Hp
    isplitl [H3]; · iexact H3
    iexact H4
  iexact HO

abbrev FIN (d : Dev nD) : sProp (MM F) := iprop(((SparseCore.T d).loc main_arg0 ↦{fullShare} m ((SparseCore.T d).loc main_arg0)) ∗ ((SparseCore.T d).loc main_arg1 ↦{fullShare} m ((SparseCore.T d).loc main_arg1))
  ∗ ((SparseCore.T d).loc main_v3 ↦{fullShare} R3 m d) ∗ ((SparseCore.T d).loc main_v4 ↦{fullShare} R4 m d))

theorem hmain [∀ e, Nonempty (Elt F e)] (κ : GSem nD τ sig → ℕ) (d : Dev nD) :
    iprop((K (F := F)).ctx EH (P m (lg m)) κ ∗ (K (F := F)).tcSt EH d 0 ∗ (K (F := F)).tcRes m ρ d ∗ ghost (F := F) d)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = held (SparseCore.T d) S8 (V0 m d) from unscoped_held d (V0 m d)]
  simp only [main, wp_bind, wp_pure]
  iintro ⟨#Hctx, Hst, ⟨Hb, Hheld, Hts, -⟩, Hg⟩
  -- the transposition
  iapply (wp_hlo_within 𝒱 (SparseCore.T d) none Set.univ (op := opT) (S := S8) hT (V := V0 m d)) $$ [Hb Hheld]
  · isplitl [Hb] <;> iassumption
  iintro ⟨Hb, Hheld⟩
  rw [wp_ret]; imodintro
  -- the matrix product
  ihave Hub := (show held (SparseCore.T d) S8 ((opT (F := F)).result (V0 m d)) ⊢ (unscopedBufs d (Vr m d) : sProp (MM F)) from Entails.of_eq (unscoped_held (F := F) d (V1 m d)).symm) $$ Hheld
  ihave #Hlev := (show (K (F := F)).ctx EH (P m (lg m)) κ ⊢ levAts (K (F := F)).L (K (F := F)).lev from by unfold SparseCore.Cfg.ctx; exact sep_elim_left) $$ Hctx
  unfold SparseCore.Cfg.tcSt
  icases Hst with ⟨HO, Hst⟩
  iapply (region m d)
  isplitl [Hst Hts]
  swap
  · isplitl [Hb]; · iexact Hb
    isplitl [Hub HO]
    · isplitl [Hub]; · iexact Hub
      iexact HO
    isplitr; · iexact Hlev
    iexact Hg
  iintro ⟨Hb, Hpost⟩
  ihave Hpost' := (post_split m d) $$ Hpost
  icases Hpost' with ⟨⟨H0, Hl, H1, Ho, Hp, H3, H4⟩, HO⟩
  -- the selection
  iapply ((K (F := F)).wp_run (D (F := F)) 𝒱 (EH := EH) (P := P m (lg m)) κ d 0) $$ [HO Hst Hl Ho Hp Hb H0 H1 H3 H4 Hts]
  isplitr; · iexact Hctx
  isplitl [HO Hst]
  · unfold SparseCore.Cfg.tcSt
    isplitl [HO]; · iexact HO
    iexact Hst
  isplitl [Hl Ho Hp]
  · rw [st_eq]
    isplitl [Hl]; · iexact Hl
    isplitl [Ho]; · iexact Ho
    iexact Hp
  iintro ⟨Hst, Hdn⟩
  ihave Hdn' := (Entails.of_eq (dn_eq m (lg m) d)) $$ Hdn
  icases Hdn' with ⟨Hl, Ho, Hp⟩
  -- the reshapes
  iapply (wp_hlo_within 𝒱 (SparseCore.T d) none Set.univ (op := op3) (S := S4) h3 (V := V2 m d)) $$ [Hb Ho Hp H3 H4]
  · isplitl [Hb]; · iexact Hb
    rw [held_S4, V2_o, V2_p, V2_r3, V2_r4]
    isplitl [Ho]; · iexact Ho
    isplitl [Hp]; · iexact Hp
    isplitl [H3]; · iexact H3
    iexact H4
  iintro ⟨Hb, Hheld⟩
  rw [wp_ret]; imodintro
  iapply (wp_hlo_within 𝒱 (SparseCore.T d) none Set.univ (op := op4) (S := S4) h4 (V := (op3 (F := F)).result (V2 m d))) $$ [Hb Hheld]
  · isplitl [Hb] <;> iassumption
  iintro ⟨Hb, Hheld⟩
  rw [wp_ret]; imodintro; imodintro
  ihave Hend := (end_held m d) $$ Hheld
  icases Hend with ⟨H3, H4⟩
  isplitl [Hst]
  · unfold SparseCore.Cfg.tcSt; iexact Hst
  isplitr [Hb Hts]
  · isplitl [H0]; · iexact H0
    isplitl [H1]; · iexact H1
    isplitl [H3]; · iexact H3
    iexact H4
  isplitl [Hb] <;> iassumption

/-- What the claims read of device `d`'s final state. -/
def fq (d : Dev nD) (s' : Phys nD τ sig (Elt F)) : Prop :=
  s'.mem.mem ((SparseCore.T d).loc main_v3) = R3 m d ∧ s'.mem.mem ((SparseCore.T d).loc main_v4) = R4 m d
    ∧ s'.mem.mem ((SparseCore.T d).loc main_arg0) = m ((SparseCore.T d).loc main_arg0) ∧ s'.mem.mem ((SparseCore.T d).loc main_arg1) = m ((SparseCore.T d).loc main_arg1)

theorem hfin (d : Dev nD) (s' : Phys nD τ sig (Elt F)) : iprop(FIN m d ∗ SI s') ⊢ (⌜fq m d s'⌝ : sProp (MM F)) := by
  iintro ⟨⟨H0, H1, H3, H4⟩, HSI⟩
  icombine HSI H0 gives %h0
  icombine HSI H1 gives %h1
  icombine HSI H3 gives %h3
  icombine HSI H4 gives %h4
  ipureintro
  exact ⟨Buf.eq_of_forall_mem_univ h3, Buf.eq_of_forall_mem_univ h4, Buf.eq_of_forall_mem_univ h0, Buf.eq_of_forall_mem_univ h1⟩

/-! ## The run -/

def QC : PUnit × MemSt nD τ sig (Elt F) → Prop := fun r => (∀ c : Dev nD,
    r.2.mem ((SparseCore.T c).loc main_v3) = R3 m c ∧ r.2.mem ((SparseCore.T c).loc main_v4) = R4 m c
    ∧ r.2.mem ((SparseCore.T c).loc main_arg0) = m ((SparseCore.T c).loc main_arg0) ∧ r.2.mem ((SparseCore.T c).loc main_arg1) = m ((SparseCore.T c).loc main_arg1)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (lg m)) (A := ∅) facts v₀
    (fun q hq => match q with | 0 => nomatch hq)
    (fun q _ => match q with | 0 => tileObl m (lg m) facts)
    (fun q _ => match q with | 0 => SparseCore.Cfg.VecSplit.of_plain (vecSplit m (lg m)))
    m ρ main (fun d => ghost (F := F) d) (FIN m) (u₀ (F := F)) (sep_elim_left.trans (hu₀ m)) (hmain m ρ) (fq m) (hfin m) (QC m) (fun _ h hz => ⟨h, hz⟩)

end Cert.Proof.KernelIdeal

end
-- ==== Proof.Sort.lean ====
module

public import proofs.«01_k».proof.Proof.Lanes
public import Idealize.ShloMosaic.PureOps.Ideal
public import Idealize.ShloMosaic.PureOps.Ideal.Laws
public import Idealize.ShloMosaic.Lib.SortNet.TopList
public import Idealize.ShloMosaic.Lib.SortNet.Threshold
public import Idealize.ShloMosaic.Lib.SortNet.Positions
public import Idealize.ShloMosaic.Lib.SortNet.Fold
public import Mathlib.Data.Prod.Lex

/-! Over the extended reals: the selection sort sorts, the merge of two sorted registers keeps the sixteen
greatest, and so a token's register holds the sixteen greatest of its sixty-four logits, in order, each with
its expert. An entry is a logit with its expert; of equal logits the lower expert is the greater entry. -/

@[expose] public section

namespace Router

open Idealize.ShloMosaic Idealize.ShloMosaic.SortNet

/-- A logit with its expert, ordered: the greater logit first, of equal logits the lower expert. -/
abbrev Ent : Type := EReal ×ₗ ℕᵒᵈ

def ent (x : EReal) (p : ℕ) : Ent := toLex (x, OrderDual.toDual p)
def posOf (e : Ent) : ℕ := OrderDual.ofDual (ofLex e).2

theorem posOf_ent (x : EReal) (p : ℕ) : posOf (ent x p) = p := rfl

theorem ent_inj {x y : EReal} {p q : ℕ} (h : ent x p = ent y q) : x = y ∧ p = q :=
  ⟨congrArg (fun e : Ent => (ofLex e).1) h, congrArg posOf h⟩

theorem ent_le_iff {x y : EReal} {p q : ℕ} : ent x p ≤ ent y q ↔ x < y ∨ x = y ∧ q ≤ p := by
  unfold ent
  rw [Prod.Lex.toLex_le_toLex]
  rfl

theorem ent_lt_iff {x y : EReal} {p q : ℕ} : ent x p < ent y q ↔ x < y ∨ x = y ∧ q < p := by
  unfold ent
  rw [Prod.Lex.toLex_lt_toLex]
  rfl

/-! ## The greatest lane and the least payload -/

theorem le_maxl (v : Vec Ideal S16 .f32) (k : Fin 16) : v (at16 k) ≤ maxl v := by
  unfold maxl
  simp only [lane_eq, Ideal.scalar_maximumf_def]
  fin_cases k <;> repeat' first
    | with_reducible exact le_max_right _ _
    | with_reducible exact le_refl _
    | with_reducible apply le_max_of_le_left

theorem maxl_mem (v : Vec Ideal S16 .f32) : ∃ k, maxl v = v (at16 k) := by
  have hm : ∀ a b : EReal, (∃ k, a = v (at16 k)) → (∃ k, b = v (at16 k)) → ∃ k, max a b = v (at16 k) := by
    intro a b ha hb
    rcases max_choice a b with h | h <;> rw [h] <;> assumption
  unfold maxl
  simp only [lane_eq, Ideal.scalar_maximumf_def]
  repeat' apply hm
  all_goals exact ⟨_, rfl⟩

theorem foldl_minui {ι : Type} (w : ι → BitVec 32) (l : List ι) (a : BitVec 32) :
    let r := l.foldl (fun r k => ScanKind.min.step r (w k)) a
    (r = a ∨ ∃ k ∈ l, r = w k) ∧ r.toNat ≤ a.toNat ∧ ∀ k ∈ l, r.toNat ≤ (w k).toNat := by
  induction l generalizing a with
  | nil => exact ⟨Or.inl rfl, le_rfl, fun _ h => absurd h List.not_mem_nil⟩
  | cons k l ih =>
    obtain ⟨h1, h2, h3⟩ := ih (ScanKind.min.step a (w k))
    have hs : (ScanKind.min.step a (w k) = a ∨ ScanKind.min.step a (w k) = w k)
        ∧ (ScanKind.min.step a (w k)).toNat ≤ a.toNat ∧ (ScanKind.min.step a (w k)).toNat ≤ (w k).toNat := by
      unfold ScanKind.step IntOp.minui
      by_cases h : a.ult (w k) = true
      · have hl : a.toNat < (w k).toNat := by simpa [BitVec.ult] using h
        simp [h]; omega
      · have hl : ¬ a.toNat < (w k).toNat := by simpa [BitVec.ult] using h
        simp [h]; omega
    obtain ⟨hs1, hs2, hs3⟩ := hs
    refine ⟨?_, h2.trans hs2, fun k' hk' => ?_⟩
    · rcases h1 with h | ⟨k', hk', h⟩
      · rcases hs1 with h' | h'
        · exact Or.inl (h.trans h')
        · exact Or.inr ⟨k, List.mem_cons_self .., h.trans h'⟩
      · exact Or.inr ⟨k', List.mem_cons_of_mem _ hk', h⟩
    · rcases List.mem_cons.mp hk' with rfl | hk'
      · exact h2.trans hs3
      · exact h3 k' hk'

theorem scan_min (w : IVec S16 32) : (∃ k, scan .min w (at16 15) = w (at16 k)) ∧ ∀ k, (scan .min w (at16 15)).toNat ≤ (w (at16 k)).toNat := by
  set L := (List.finRange 16).filter fun k => decide (0 < k.val ∧ k.val ≤ 15) with hL
  have e : scan .min w (at16 15) = L.foldl (fun r k => ScanKind.min.step r (w (at16 k))) (w (at16 0)) := by
    have : (fun r (k : Fin 16) => ScanKind.min.step r (w (at16 k))) = fun r (k : Fin 16) => ScanKind.min.step r (w (Shape.ofLane (d := ![16]) k)) := by
      funext r k; exact congrArg (fun j => ScanKind.min.step r (w j)) (ofLane_eq k).symm
    rw [this, ← ofLane_eq 0]
    rfl
  obtain ⟨h1, h2, h3⟩ := foldl_minui (fun k : Fin 16 => w (at16 k)) L (w (at16 0))
  rw [← e] at h1 h2 h3
  refine ⟨?_, fun k => ?_⟩
  · rcases h1 with h | ⟨k, -, h⟩
    · exact ⟨0, h⟩
    · exact ⟨k, h⟩
  · by_cases hk : k = 0
    · subst hk; exact h2
    · refine h3 k (List.mem_filter.mpr ⟨List.mem_finRange _, ?_⟩)
      have h0 : k.val ≠ 0 := fun h => hk (Fin.ext h)
      have := k.isLt
      exact decide_eq_true ⟨by omega, by omega⟩

theorem at16_last : at16 15 = fun a => ⟨(![15] : Fin 1 → Nat) a, by fin_cases a; decide⟩ := by
  funext a
  fin_cases a
  rfl

theorem least_eq (hit : IVec S16 1) (vals : IVec S16 32) (hb : ∀ j, (vals (at16 j)).toNat < 64) (j₀ : Fin 16) (h₀ : hit (at16 j₀) = 1#1) :
    ∃ j, hit (at16 j) = 1#1 ∧ least hit vals = vals (at16 j) ∧ ∀ i, hit (at16 i) = 1#1 → (vals (at16 j)).toNat ≤ (vals (at16 i)).toNat := by
  set w : IVec S16 32 := xori (select hit vals (broadcast S16 2147483647#32)) (broadcast S16 2147483648#32) with hw
  have w1 : ∀ k, hit (at16 k) = 1#1 → w (at16 k) = vals (at16 k) ^^^ 2147483648#32 := by
    intro k hk
    show (if hit (at16 k) = 1 then vals (at16 k) else 2147483647#32) ^^^ 2147483648#32 = _
    rw [if_pos (show hit (at16 k) = 1 from hk)]
  have w0 : ∀ k, hit (at16 k) ≠ 1#1 → w (at16 k) = 4294967295#32 := by
    intro k hk
    show (if hit (at16 k) = 1 then vals (at16 k) else 2147483647#32) ^^^ 2147483648#32 = _
    rw [if_neg (show ¬ hit (at16 k) = 1 from hk)]; rfl
  have wn : ∀ k, hit (at16 k) = 1#1 → (w (at16 k)).toNat = (vals (at16 k)).toNat + 2147483648 := by
    intro k hk
    rw [w1 k hk]
    have := hb k
    generalize vals (at16 k) = x at this ⊢
    have hx : ∀ y : Fin 64, (BitVec.ofNat 32 y.val ^^^ 2147483648#32).toNat = y.val + 2147483648 := by decide
    have := hx ⟨x.toNat, this⟩
    rwa [BitVec.ofNat_toNat, BitVec.setWidth_eq] at this
  have hl : least hit vals = scan .min w (at16 15) ^^^ 2147483648#32 := by
    rw [at16_last]
    rfl
  obtain ⟨⟨k, hk⟩, hmin⟩ := scan_min w
  have hkh : hit (at16 k) = 1#1 := by
    by_contra hne
    have h1 := hmin j₀
    rw [hk, w0 k hne, wn j₀ h₀] at h1
    have := hb j₀
    simp at h1
    omega
  refine ⟨k, hkh, ?_, fun i hi => ?_⟩
  · rw [hl, hk, w1 k hkh, BitVec.xor_assoc, BitVec.xor_self, BitVec.xor_zero]
  · have h1 := hmin i
    rw [hk, wn k hkh, wn i hi] at h1
    omega

/-! ## The selection sort -/

/-- The entries of a register of logits and one of experts. -/
def ents (k : Vec Ideal S16 .f32) (v : IVec S16 32) (i : Fin 16) : Ent := ent (k (at16 i)) (v (at16 i)).toNat

theorem one_or_zero (b : BitVec 1) : b = 1#1 ∨ b = 0#1 := by revert b; decide

theorem ofBits_ninf : Ideal.ofBits .f32 0xFF800000#32 = ⊥ := by simp [Ideal.ofBits, Ideal.ieee]

theorem round (keys : Vec Ideal S16 .f32) (vals left : IVec S16 32) (hex : ∃ j, left (at16 j) = 1#32)
    (hinj : Function.Injective fun j => (vals (at16 j)).toNat) (hb : ∀ j, (vals (at16 j)).toNat < 64) :
    ∃ j, left (at16 j) = 1#32 ∧ topKey keys left = keys (at16 j) ∧ least (hits keys left) vals = vals (at16 j)
      ∧ (∀ i, left (at16 i) = 1#32 → ents keys vals i ≤ ents keys vals j)
      ∧ ∀ i, (select (andi (hits keys left) (cmpi .eq vals (broadcast S16 (least (hits keys left) vals)))) (broadcast S16 0#32) left) (at16 i)
          = if i = j then 0#32 else left (at16 i) := by
  set u : Vec Ideal S16 .f32 := select (cmpi .eq left (broadcast S16 1#32)) keys (broadcast S16 (Ideal.ofBits .f32 0xFF800000#32 : Elt Ideal .f32)) with hu
  have u1 : ∀ j, left (at16 j) = 1#32 → u (at16 j) = keys (at16 j) := by
    intro j hj
    show (if BitVec.ofBool (left (at16 j) == 1#32) = 1 then keys (at16 j) else _) = _
    rw [hj]; rfl
  have u0 : ∀ j, left (at16 j) ≠ 1#32 → u (at16 j) = ⊥ := by
    intro j hj
    show (if BitVec.ofBool (left (at16 j) == 1#32) = 1 then keys (at16 j) else Ideal.ofBits .f32 0xFF800000#32) = _
    rw [beq_false_of_ne hj]; exact ofBits_ninf
  have htop : topKey keys left = maxl u := rfl
  have hub : ∀ j, left (at16 j) = 1#32 → keys (at16 j) ≤ topKey keys left := by
    intro j hj; rw [htop, ← u1 j hj]; exact le_maxl u j
  obtain ⟨j₀, hj₀, hk₀⟩ : ∃ j, left (at16 j) = 1#32 ∧ topKey keys left = keys (at16 j) := by
    obtain ⟨k, hk⟩ := maxl_mem u
    by_cases h : left (at16 k) = 1#32
    · exact ⟨k, h, by rw [htop, hk, u1 k h]⟩
    · obtain ⟨j, hj⟩ := hex
      refine ⟨j, hj, le_antisymm ?_ (hub j hj)⟩
      rw [htop, hk, u0 k h]; exact bot_le
  have hhit : ∀ j, hits keys left (at16 j) = 1#1 ↔ left (at16 j) = 1#32 ∧ keys (at16 j) = topKey keys left := by
    intro j
    show BitVec.ofBool (left (at16 j) == 1#32) &&& BitVec.ofBool (decide (keys (at16 j) = topKey keys left)) = 1#1 ↔ _
    by_cases h1 : left (at16 j) = 1#32
    · rw [h1, beq_self_eq_true]
      by_cases h2 : keys (at16 j) = topKey keys left
      · rw [decide_eq_true h2]; exact ⟨fun _ => ⟨rfl, h2⟩, fun _ => rfl⟩
      · rw [decide_eq_false h2]; exact ⟨fun h => absurd h (by decide), fun h => absurd h.2 h2⟩
    · rw [beq_false_of_ne h1]
      generalize BitVec.ofBool (decide (keys (at16 j) = topKey keys left)) = b
      exact ⟨fun h => absurd h (by revert b; decide), fun h => absurd h.1 h1⟩
  obtain ⟨j, hjh, hjl, hjm⟩ := least_eq (hits keys left) vals hb j₀ ((hhit j₀).mpr ⟨hj₀, hk₀.symm⟩)
  obtain ⟨hjl1, hjk⟩ := (hhit j).mp hjh
  refine ⟨j, hjl1, hjk.symm, hjl, fun i hi => ?_, fun i => ?_⟩
  · unfold ents
    rw [ent_le_iff]
    rcases (hub i hi).lt_or_eq with h | h
    · exact Or.inl (by rw [hjk]; exact h)
    · exact Or.inr ⟨by rw [hjk]; exact h, hjm i ((hhit i).mpr ⟨hi, h⟩)⟩
  · show (if hits keys left (at16 i) &&& BitVec.ofBool (vals (at16 i) == least (hits keys left) vals) = 1 then 0#32 else left (at16 i)) = _
    rw [hjl]
    by_cases h : i = j
    · subst h
      rw [if_pos rfl, hjh, beq_self_eq_true]; rfl
    · rw [if_neg h, beq_false_of_ne fun e => h (hinj (congrArg BitVec.toNat e))]
      rw [if_neg]
      show ¬ (hits keys left (at16 i) &&& 0#1 = 1#1)
      rw [BitVec.and_zero]; decide

theorem rounds (keys : Vec Ideal S16 .f32) (vals : IVec S16 32) (hinj : Function.Injective fun j => (vals (at16 j)).toNat)
    (hb : ∀ j, (vals (at16 j)).toNat < 64) (n : ℕ) (hn : n ≤ 16) :
    ∃ p : ℕ → Fin 16, (∀ j, (sortRounds keys vals n).1 (at16 j) = if ∃ i < n, p i = j then 0#32 else 1#32)
      ∧ (∀ i < n, ∀ i' < i, p i' ≠ p i) ∧ (∀ i < n, ∀ j, (∀ i' < i, p i' ≠ j) → ents keys vals j ≤ ents keys vals (p i))
      ∧ ∀ t : Fin 16, t.val < n → (sortRounds keys vals n).2.1 (at16 t) = keys (at16 (p t.val)) ∧ (sortRounds keys vals n).2.2 (at16 t) = vals (at16 (p t.val)) := by
  induction n with
  | zero =>
    refine ⟨fun _ => 0, fun j => ?_, fun i hi => absurd hi (Nat.not_lt_zero _), fun i hi => absurd hi (Nat.not_lt_zero _), fun t ht => absurd ht (Nat.not_lt_zero _)⟩
    rw [if_neg (by rintro ⟨i, hi, -⟩; exact absurd hi (Nat.not_lt_zero _))]
    rfl
  | succ n ih =>
    obtain ⟨p, h1, h2, h3, h4⟩ := ih (by omega)
    have hleft : ∀ j, (sortRounds keys vals n).1 (at16 j) = 1#32 ↔ ∀ i < n, p i ≠ j := by
      intro j
      rw [h1 j]
      by_cases h : ∃ i < n, p i = j
      · rw [if_pos h]
        obtain ⟨i, hi, e⟩ := h
        exact ⟨fun h0 => absurd h0 (by decide), fun h0 => absurd e (h0 i hi)⟩
      · rw [if_neg h]
        exact ⟨fun _ i hi e => h ⟨i, hi, e⟩, fun _ => rfl⟩
    obtain ⟨j₀, hj₀⟩ : ∃ j, ∀ i < n, p i ≠ j := by
      by_contra hc
      push Not at hc
      have hsub : (Finset.univ : Finset (Fin 16)) ⊆ (Finset.range n).image p := fun j _ => by
        obtain ⟨i, hi, e⟩ := hc j
        exact Finset.mem_image.mpr ⟨i, Finset.mem_range.mpr hi, e⟩
      have := (Finset.card_le_card hsub).trans Finset.card_image_le
      rw [Finset.card_range, Finset.card_univ, Fintype.card_fin] at this
      omega
    obtain ⟨j, hj1, hjk, hjv, hjm, hjl⟩ := round keys vals (sortRounds keys vals n).1 ⟨j₀, (hleft j₀).mpr hj₀⟩ hinj hb
    have hjn := (hleft j).mp hj1
    have pu : ∀ i < n, Function.update p n j i = p i := fun i hi => Function.update_of_ne (by omega) _ _
    have pn : Function.update p n j n = j := Function.update_self _ _ _
    refine ⟨Function.update p n j, fun i => ?_, fun i hi i' hi' => ?_, fun i hi k hk => ?_, fun t ht => ?_⟩
    · refine (hjl i).trans ?_
      by_cases h : i = j
      · rw [if_pos h, if_pos ⟨n, by omega, by rw [pn, h]⟩]
      · rw [if_neg h, h1 i]
        refine if_congr ⟨?_, ?_⟩ rfl rfl
        · rintro ⟨i', hi', e⟩; exact ⟨i', by omega, by rw [pu i' hi']; exact e⟩
        · rintro ⟨i', hi', e⟩
          by_cases hn' : i' = n
          · subst hn'; rw [pn] at e; exact absurd e.symm h
          · exact ⟨i', by omega, by rw [pu i' (by omega)] at e; exact e⟩
    · by_cases hin : i = n
      · subst hin; rw [pn, pu i' hi']; exact hjn i' hi'
      · rw [pu i (by omega), pu i' (by omega)]; exact h2 i (by omega) i' hi'
    · by_cases hin : i = n
      · subst hin; rw [pn]
        exact hjm k ((hleft k).mpr fun i' hi' => by have := hk i' hi'; rwa [pu i' hi'] at this)
      · rw [pu i (by omega)]
        exact h3 i (by omega) k fun i' hi' => by have := hk i' hi'; rwa [pu i' (by omega)] at this
    · have hsel : ∀ {α : Type} (x : α) (y : S16.Idx → α), (select (cmpi .eq lanes (broadcast S16 (BitVec.ofNat 32 n))) (broadcast S16 x) y) (at16 t)
          = if t.val = n then x else y (at16 t) := by
        intro α x y
        show (if BitVec.ofBool (lanes (at16 t) == BitVec.ofNat 32 n) = 1 then x else y (at16 t)) = _
        rw [lanes_at]
        have := t.isLt
        by_cases h : t.val = n
        · rw [if_pos h, h, beq_self_eq_true]; rfl
        · rw [if_neg h, beq_false_of_ne]
          · rfl
          · intro e
            have := congrArg BitVec.toNat e
            rw [BitVec.toNat_ofNat, BitVec.toNat_ofNat] at this
            omega
      refine ⟨(hsel _ _).trans ?_, (hsel _ _).trans ?_⟩
      · by_cases h : t.val = n
        · rw [if_pos h, h, pn]; exact hjk
        · rw [if_neg h, pu _ (by omega)]; exact (h4 t (by omega)).1
      · by_cases h : t.val = n
        · rw [if_pos h, h, pn]; exact hjv
        · rw [if_neg h, pu _ (by omega)]; exact (h4 t (by omega)).2

/-- The entries of a register, as a list. -/
def regList (k : Vec Ideal S16 .f32) (v : IVec S16 32) : List Ent := List.ofFn (ents k v)

/-- Experts that differ, each below sixty-four. -/
def Good (l : List Ent) : Prop := (l.map posOf).Nodup ∧ ∀ e ∈ l, posOf e < 64

theorem Good.sublist {l l' : List Ent} (h : Good l) (hs : l'.Sublist l) : Good l' :=
  ⟨h.1.sublist (hs.map _), fun e he => h.2 e (hs.subset he)⟩

theorem Good.perm {l l' : List Ent} (h : Good l) (hp : l'.Perm l) : Good l' :=
  ⟨(hp.map posOf).nodup_iff.mpr h.1, fun e he => h.2 e (hp.mem_iff.mp he)⟩

theorem Good.topList {l : List Ent} (h : Good l) (k : ℕ) : Good (topList k l) :=
  (h.perm (List.perm_insertionSort (· ≥ ·) l)).sublist (List.take_sublist k _)

theorem good_regList {k : Vec Ideal S16 .f32} {v : IVec S16 32} (h : Good (regList k v)) :
    (Function.Injective fun j => (v (at16 j)).toNat) ∧ ∀ j, (v (at16 j)).toNat < 64 := by
  refine ⟨?_, fun j => h.2 (ents k v j) ((List.mem_ofFn' _ _).mpr ⟨j, rfl⟩)⟩
  have h1 := h.1
  unfold regList at h1
  rw [List.map_ofFn] at h1
  exact List.nodup_ofFn.mp h1

/-- The sort sorts. -/
theorem regList_sort (k : Vec Ideal S16 .f32) (v : IVec S16 32) (h : Good (regList k v)) :
    regList (sortK k v) (sortV k v) = topList 16 (regList k v) := by
  obtain ⟨hinj, hb⟩ := good_regList h
  obtain ⟨p, -, h2, h3, h4⟩ := rounds k v hinj hb 16 le_rfl
  have einj : Function.Injective (ents k v) := fun i j e => hinj (ent_inj e).2
  rw [← map_range_eq_topList (l := regList k v) (List.nodup_ofFn.mpr einj) (fun i => ents k v (p i)) 16 ?_]
  · refine List.ext_getElem (by simp [regList]) fun i hi hi' => ?_
    have hi16 : i < 16 := by simpa using hi'
    rw [List.getElem_map, List.getElem_range]
    refine (List.getElem_ofFn (f := ents (sortK k v) (sortV k v)) _).trans ?_
    obtain ⟨e1, e2⟩ := h4 ⟨i, hi16⟩ hi16
    unfold ents
    rw [show sortK k v (at16 ⟨i, _⟩) = _ from e1, show sortV k v (at16 ⟨i, _⟩) = _ from e2]
  · intro i hi
    refine ⟨(List.mem_ofFn' _ _).mpr ⟨p i, rfl⟩, fun hm => ?_, fun x hx hnx => ?_⟩
    · obtain ⟨i', hi', e⟩ := List.mem_map.mp hm
      exact h2 i hi i' (List.mem_range.mp hi') (einj e)
    · obtain ⟨j, rfl⟩ := (List.mem_ofFn' _ _).mp hx
      exact h3 i hi j fun i' hi' e => hnx (List.mem_map.mpr ⟨i', List.mem_range.mpr hi', by rw [e]⟩)

/-! ## The merge -/

theorem rev_at {α : Type} (v : S16.Idx → α) (i : Fin 16) : rev v (at16 i) = v (at16 (Fin.rev i)) := by
  unfold rev
  simp only [lane_eq]
  fin_cases i <;> rfl

theorem topList_of_descending {l : List Ent} {k : ℕ} (h : l.Pairwise (· ≥ ·)) (hk : l.length ≤ k) : topList k l = l := topList_eq_self h hk

/-- Position for position the greater of a descending register and of another's reversal: the sixteen greatest of both. -/
theorem topList_high {n : ℕ} (R C : Fin n → Ent) (hR : Antitone R) (hC : Antitone C) :
    topList n (List.ofFn fun i => max (R i) (C (Fin.rev i))) = topList n (List.ofFn R ++ List.ofFn C) := by
  set D : Fin n → Ent := fun i => C (Fin.rev i) with hD
  have hDm : Monotone D := fun i j hij => hC (Fin.rev_le_rev.mpr hij)
  have hp := perm_map_max_append_map_min R D (List.finRange n)
  rw [← List.ofFn_eq_map, ← List.ofFn_eq_map, ← List.ofFn_eq_map, ← List.ofFn_eq_map] at hp
  have hDC : (List.ofFn D).Perm (List.ofFn C) := by
    rw [List.ofFn_eq_map, List.ofFn_eq_map]
    have : (List.finRange n).map D = ((List.finRange n).map Fin.rev).map C := by rw [List.map_map]; rfl
    rw [this]
    refine List.Perm.map C ((List.perm_ext_iff_of_nodup ((List.nodup_finRange n).map Fin.rev_injective) (List.nodup_finRange n)).mpr fun i => ?_)
    exact ⟨fun _ => List.mem_finRange i, fun _ => List.mem_map.mpr ⟨Fin.rev i, List.mem_finRange _, Fin.rev_rev i⟩⟩
  set H := List.ofFn fun i => max (R i) (D i) with hH
  have hsp : (H.insertionSort (· ≥ ·) ++ List.ofFn fun i => min (R i) (D i)).Perm (List.ofFn R ++ List.ofFn C) :=
    ((List.perm_insertionSort (· ≥ ·) H).append_right _).trans (hp.trans (hDC.append_left _))
  have ht := eq_topList hsp (List.pairwise_insertionSort (· ≥ ·) H) fun a ha b hb => by
    obtain ⟨i, rfl⟩ := (List.mem_ofFn' _ _).mp ((List.mem_insertionSort (· ≥ ·)).mp ha)
    obtain ⟨j, rfl⟩ := (List.mem_ofFn' _ _).mp hb
    exact min_le_max_of_antitone_monotone R D hR hDm j i
  have hlen : (H.insertionSort (· ≥ ·)).length = n := by rw [List.length_insertionSort, hH, List.length_ofFn]
  rw [hlen] at ht
  rw [← ht]
  show (H.insertionSort (· ≥ ·)).take n = _
  rw [List.take_of_length_le (by rw [hlen])]

theorem antitone_of_pairwise {n : ℕ} {R : Fin n → Ent} (h : (List.ofFn R).Pairwise (· ≥ ·)) : Antitone R := by
  intro i j hij
  rcases hij.lt_or_eq with hlt | rfl
  · have := List.pairwise_iff_getElem.mp h i.val j.val (by simp) (by simp) hlt
    simpa using this
  · exact le_rfl

theorem ents_high (a b : Vec Ideal S16 .f32) (ai bi : IVec S16 32) (hpos : ∀ i j, (ai (at16 i)).toNat < (bi (at16 j)).toNat) (i : Fin 16) :
    ents (highK a b) (highV a b ai bi) i = max (ents a ai i) (ents b bi (Fin.rev i)) := by
  have rb : rev (α := Elt Ideal .f32) b (at16 i) = b (at16 (Fin.rev i)) := rev_at _ i
  have rbi : rev bi (at16 i) = bi (at16 (Fin.rev i)) := rev_at _ i
  have hc : cmpf (F := Ideal) (φ := .f32) .oge a (rev (α := Elt Ideal .f32) b) (at16 i) = BitVec.ofBool (decide (b (at16 (Fin.rev i)) ≤ a (at16 i))) := by
    rw [← rb]
    rfl
  have hk : highK a b (at16 i) = if b (at16 (Fin.rev i)) ≤ a (at16 i) then a (at16 i) else b (at16 (Fin.rev i)) := by
    show (if cmpf (F := Ideal) (φ := .f32) .oge a (rev (α := Elt Ideal .f32) b) (at16 i) = 1 then a (at16 i) else rev (α := Elt Ideal .f32) b (at16 i)) = _
    rw [hc, rb]
    by_cases h : b (at16 (Fin.rev i)) ≤ a (at16 i) <;> simp [h]
  have hv : highV a b ai bi (at16 i) = if b (at16 (Fin.rev i)) ≤ a (at16 i) then ai (at16 i) else bi (at16 (Fin.rev i)) := by
    show (if cmpf (F := Ideal) (φ := .f32) .oge a (rev (α := Elt Ideal .f32) b) (at16 i) = 1 then ai (at16 i) else rev bi (at16 i)) = _
    rw [hc, rbi]
    by_cases h : b (at16 (Fin.rev i)) ≤ a (at16 i) <;> simp [h]
  unfold ents
  rw [hk, hv]
  by_cases h : b (at16 (Fin.rev i)) ≤ a (at16 i)
  · rw [if_pos h, if_pos h, max_eq_left]
    rw [ent_le_iff]
    rcases h.lt_or_eq with h' | h'
    · exact Or.inl h'
    · exact Or.inr ⟨h', (hpos i _).le⟩
  · rw [if_neg h, if_neg h, max_eq_right]
    exact ent_le_iff.mpr (Or.inl (not_le.mp h))

/-- The merge of two sorted registers holds the sixteen greatest of both, in order. -/
theorem regList_merge (a b : Vec Ideal S16 .f32) (ai bi : IVec S16 32) (hpos : ∀ i j, (ai (at16 i)).toNat < (bi (at16 j)).toNat)
    (ha : (regList a ai).Pairwise (· ≥ ·)) (hb : (regList b bi).Pairwise (· ≥ ·)) (hg : Good (regList a ai ++ regList b bi)) :
    regList (mergeK a ai b bi) (mergeV a ai b bi) = topList 16 (regList a ai ++ regList b bi) := by
  have e : regList (highK a b) (highV a b ai bi) = List.ofFn fun i => max (ents a ai i) (ents b bi (Fin.rev i)) := by
    unfold regList
    exact congrArg List.ofFn (funext fun i => ents_high a b ai bi hpos i)
  have ht := topList_high (ents a ai) (ents b bi) (antitone_of_pairwise ha) (antitone_of_pairwise hb)
  have hgh : Good (regList (highK a b) (highV a b ai bi)) := by
    have h1 : Good (topList 16 (regList (highK a b) (highV a b ai bi))) := by
      rw [e, ht]; exact hg.topList 16
    refine h1.perm ?_
    unfold topList
    rw [List.take_of_length_le (by rw [List.length_insertionSort]; simp [regList])]
    exact (List.perm_insertionSort _ _).symm
  unfold mergeK mergeV
  rw [regList_sort _ _ hgh, e, ht]
  rfl

/-! ## A token's logits -/

theorem group_at (g : ℕ) (hg : g + 16 ≤ 64) (k : Fin 16) : (group (BitVec.ofNat 32 g) (at16 k)).toNat = k.val + g := by
  show (lanes (at16 k) + BitVec.ofNat 32 g).toNat = _
  rw [lanes_at, BitVec.toNat_add, BitVec.toNat_ofNat, BitVec.toNat_ofNat]
  have := k.isLt
  omega

/-- A token's entries. -/
def rowEnt (x : Fin 64 → EReal) (p : Fin 64) : Ent := ent (x p) p.val

theorem rowEnt_injective (x : Fin 64 → EReal) : Function.Injective (rowEnt x) := fun i j h => Fin.ext (ent_inj h).2

/-- Register `q` of a token's logits. -/
def quarter (x : Fin 64 → EReal) (q : Fin 4) : Vec Ideal S16 .f32 :=
  fun j => x ⟨16 * q.val + (j 0).val, by have h : (j 0).val < 16 := (j 0).isLt; have := q.isLt; omega⟩

theorem regList_quarter (x : Fin 64 → EReal) (q : Fin 4) :
    regList (quarter x q) (group (BitVec.ofNat 32 (16 * q.val)))
      = List.ofFn fun i : Fin 16 => rowEnt x ⟨16 * q.val + i.val, by have := i.isLt; have := q.isLt; omega⟩ := by
  unfold regList
  refine congrArg List.ofFn (funext fun i => ?_)
  unfold ents rowEnt
  rw [group_at _ (by have := q.isLt; omega), Nat.add_comm i.val]
  rfl

theorem ofFn_64 (f : Fin 64 → Ent) :
    List.ofFn f = ((List.ofFn fun i : Fin 16 => f ⟨16 * 0 + i.val, by omega⟩) ++ (List.ofFn fun i : Fin 16 => f ⟨16 * 1 + i.val, by omega⟩))
      ++ ((List.ofFn fun i : Fin 16 => f ⟨16 * 2 + i.val, by omega⟩) ++ (List.ofFn fun i : Fin 16 => f ⟨16 * 3 + i.val, by omega⟩)) := by
  refine List.ext_getElem (by simp) fun i hi hi' => ?_
  have h64 : i < 64 := by simpa using hi
  rw [List.getElem_ofFn]
  by_cases h1 : i < 32
  · rw [List.getElem_append_left (by simpa using h1)]
    by_cases h2 : i < 16
    · rw [List.getElem_append_left (by simpa using h2), List.getElem_ofFn]; congr 1; simp
    · rw [List.getElem_append_right (by simpa using h2), List.getElem_ofFn]; congr 1; simp; omega
  · rw [List.getElem_append_right (by simpa using h1)]
    by_cases h2 : i < 48
    · rw [List.getElem_append_left (by simp; omega), List.getElem_ofFn]; congr 1; simp; omega
    · rw [List.getElem_append_right (by simp; omega), List.getElem_ofFn]; congr 1; simp; omega

theorem good_row (x : Fin 64 → EReal) : Good (List.ofFn (rowEnt x)) := by
  refine ⟨?_, fun e he => ?_⟩
  · rw [List.map_ofFn]
    exact List.nodup_ofFn.mpr fun i j h => Fin.ext h
  · obtain ⟨p, rfl⟩ := (List.mem_ofFn' _ _).mp he
    exact p.isLt

theorem mem_regList {k : Vec Ideal S16 .f32} {v : IVec S16 32} (j : Fin 16) : ents k v j ∈ regList k v := (List.mem_ofFn' _ _).mpr ⟨j, rfl⟩

/-- What is known of a register that holds the sixteen greatest of a part of the row. -/
theorem pos_of_sub {k : Vec Ideal S16 .f32} {v : IVec S16 32} {l : List Ent} {lo hi : ℕ} (e : regList k v = topList 16 l)
    (hl : ∀ e ∈ l, lo ≤ posOf e ∧ posOf e < hi) (j : Fin 16) : lo ≤ (v (at16 j)).toNat ∧ (v (at16 j)).toNat < hi :=
  hl (ents k v j) (mem_of_mem_topList (e ▸ mem_regList j))

theorem pos_part (x : Fin 64 → EReal) (q : Fin 4) (e : Ent)
    (he : e ∈ List.ofFn fun i : Fin 16 => rowEnt x ⟨16 * q.val + i.val, by have := i.isLt; have := q.isLt; omega⟩) :
    16 * q.val ≤ posOf e ∧ posOf e < 16 * q.val + 16 := by
  obtain ⟨i, rfl⟩ := (List.mem_ofFn' _ _).mp he
  have := i.isLt
  exact ⟨by show 16 * q.val ≤ 16 * q.val + i.val; omega, by show 16 * q.val + i.val < _; omega⟩

/-- A token's register: the sixteen greatest of its sixty-four logits, in order, each with its expert. -/
theorem regList_tok (x : Fin 64 → EReal) :
    regList (tokK (quarter x 0) (quarter x 1) (quarter x 2) (quarter x 3)) (tokV (quarter x 0) (quarter x 1) (quarter x 2) (quarter x 3))
      = topList 16 (List.ofFn (rowEnt x)) := by
  have hrow := good_row x
  have hsplit := ofFn_64 (rowEnt x)
  rw [hsplit] at hrow
  set A := List.ofFn fun i : Fin 16 => rowEnt x ⟨16 * 0 + i.val, by omega⟩ with hA
  set B := List.ofFn fun i : Fin 16 => rowEnt x ⟨16 * 1 + i.val, by omega⟩ with hB
  set C := List.ofFn fun i : Fin 16 => rowEnt x ⟨16 * 2 + i.val, by omega⟩ with hC
  set D := List.ofFn fun i : Fin 16 => rowEnt x ⟨16 * 3 + i.val, by omega⟩ with hD
  have gAB : Good (A ++ B) := hrow.sublist (List.sublist_append_left _ _)
  have gCD : Good (C ++ D) := hrow.sublist (List.sublist_append_right _ _)
  have qA : regList (quarter x 0) (group 0#32) = A := regList_quarter x 0
  have qB : regList (quarter x 1) (group 16#32) = B := regList_quarter x 1
  have qC : regList (quarter x 2) (group 32#32) = C := regList_quarter x 2
  have qD : regList (quarter x 3) (group 48#32) = D := regList_quarter x 3
  have sA : regList (sortK (quarter x 0) (group 0#32)) (sortV (quarter x 0) (group 0#32)) = topList 16 A := by
    rw [regList_sort _ _ (by rw [qA]; exact gAB.sublist (List.sublist_append_left _ _)), qA]
  have sB : regList (sortK (quarter x 1) (group 16#32)) (sortV (quarter x 1) (group 16#32)) = topList 16 B := by
    rw [regList_sort _ _ (by rw [qB]; exact gAB.sublist (List.sublist_append_right _ _)), qB]
  have sC : regList (sortK (quarter x 2) (group 32#32)) (sortV (quarter x 2) (group 32#32)) = topList 16 C := by
    rw [regList_sort _ _ (by rw [qC]; exact gCD.sublist (List.sublist_append_left _ _)), qC]
  have sD : regList (sortK (quarter x 3) (group 48#32)) (sortV (quarter x 3) (group 48#32)) = topList 16 D := by
    rw [regList_sort _ _ (by rw [qD]; exact gCD.sublist (List.sublist_append_right _ _)), qD]
  have pA := fun e he => pos_part x 0 e he
  have pB := fun e he => pos_part x 1 e he
  have pC := fun e he => pos_part x 2 e he
  have pD := fun e he => pos_part x 3 e he
  have sub (U V : List Ent) : (topList 16 U ++ topList 16 V).Sublist (U.insertionSort (· ≥ ·) ++ V.insertionSort (· ≥ ·)) :=
    (List.take_sublist _ _).append (List.take_sublist _ _)
  have good2 (U V : List Ent) (h : Good (U ++ V)) : Good (topList 16 U ++ topList 16 V) :=
    (h.perm ((List.perm_insertionSort (· ≥ ·) U).append (List.perm_insertionSort (· ≥ ·) V))).sublist (sub U V)
  have mAB : regList (mergeK (sortK (quarter x 0) (group 0#32)) (sortV (quarter x 0) (group 0#32)) (sortK (quarter x 1) (group 16#32)) (sortV (quarter x 1) (group 16#32)))
      (mergeV (sortK (quarter x 0) (group 0#32)) (sortV (quarter x 0) (group 0#32)) (sortK (quarter x 1) (group 16#32)) (sortV (quarter x 1) (group 16#32)))
      = topList 16 (A ++ B) := by
    rw [regList_merge _ _ _ _ (fun i j => lt_of_lt_of_le (pos_of_sub sA pA i).2 (pos_of_sub sB pB j).1)
      (by rw [sA]; exact pairwise_topList _ _) (by rw [sB]; exact pairwise_topList _ _) (by rw [sA, sB]; exact good2 A B gAB), sA, sB]
    exact topList_append_topList_topList 16 A B
  have mCD : regList (mergeK (sortK (quarter x 2) (group 32#32)) (sortV (quarter x 2) (group 32#32)) (sortK (quarter x 3) (group 48#32)) (sortV (quarter x 3) (group 48#32)))
      (mergeV (sortK (quarter x 2) (group 32#32)) (sortV (quarter x 2) (group 32#32)) (sortK (quarter x 3) (group 48#32)) (sortV (quarter x 3) (group 48#32)))
      = topList 16 (C ++ D) := by
    rw [regList_merge _ _ _ _ (fun i j => lt_of_lt_of_le (pos_of_sub sC pC i).2 (pos_of_sub sD pD j).1)
      (by rw [sC]; exact pairwise_topList _ _) (by rw [sD]; exact pairwise_topList _ _) (by rw [sC, sD]; exact good2 C D gCD), sC, sD]
    exact topList_append_topList_topList 16 C D
  have pAB : ∀ e ∈ A ++ B, 0 ≤ posOf e ∧ posOf e < 32 := fun e he => by
    rcases List.mem_append.mp he with h | h
    · exact ⟨Nat.zero_le _, lt_trans (pA e h).2 (by decide)⟩
    · exact ⟨Nat.zero_le _, (pB e h).2⟩
  have pCD : ∀ e ∈ C ++ D, 32 ≤ posOf e ∧ posOf e < 64 := fun e he => by
    rcases List.mem_append.mp he with h | h
    · exact ⟨(pC e h).1, lt_trans (pC e h).2 (by decide)⟩
    · exact ⟨le_trans (by decide) (pD e h).1, (pD e h).2⟩
  unfold tokK tokV
  rw [regList_merge _ _ _ _ (fun i j => lt_of_lt_of_le (pos_of_sub mAB pAB i).2 (pos_of_sub mCD pCD j).1)
    (by rw [mAB]; exact pairwise_topList _ _) (by rw [mCD]; exact pairwise_topList _ _) (by rw [mAB, mCD]; exact good2 _ _ hrow), mAB, mCD,
    topList_append_topList_topList, hsplit]

end Router
-- ==== Proof.Spec.lean ====
module

public import proofs.«01_k».proof.Proof.Sort
public import Idealize.ShloMosaic.Lib.SortFacts
public import Idealize.ShloMosaic.Lib.Pointwise.Index
public import Idealize.ShloMosaic.Lib.Pipeline.Value

/-! A token's first eight lanes are the stable top eight of its row, and their softmax. -/

@[expose] public section

namespace Router

open Idealize.ShloMosaic Idealize.ShloMosaic.SortNet

variable {n : Nat}

theorem pt_eq (r : Fin n) (c : Fin 64) : pt r c = ix2 r c := by
  funext a
  match a with
  | 0 => rfl
  | 1 => rfl

/-- Row `r`. -/
noncomputable def row (x : Vec Ideal (Rows n) .f32) (r : Fin n) (c : Fin 64) : EReal := x (pt r c)

/-! ## The stable sort by value alone is the sort by value, then position -/

theorem stableSort_value (f : Fin 64 → EReal) (l : List (Fin 64)) (hl : l.Pairwise (· < ·)) :
    stableSort (fun k k' => decide (f k' < f k)) l = stableSort (greaterFirst (rowEnt f)) l := by
  induction l with
  | nil => rfl
  | cons a l ih =>
    obtain ⟨h1, h2⟩ := List.pairwise_cons.mp hl
    show insertBefore _ a (stableSort _ l) = insertBefore _ a (stableSort _ l)
    rw [ih h2]
    refine insertBefore_congr _ _ a _ fun b hb => ?_
    have hab : a < b := h1 b ((perm_stableSort _ l).mem_iff.mp hb)
    unfold greaterFirst rowEnt
    refine decide_eq_decide.mpr ⟨fun h => ent_lt_iff.mpr (Or.inl h), fun h => ?_⟩
    rcases ent_lt_iff.mp h with h | ⟨-, h⟩
    · exact h
    · exact absurd h (not_lt.mpr (le_of_lt hab))

theorem sortedFrom_of_eq {c : Nat} (R R' : Fin c → Fin c → Bool) (h : sortPositions c R = sortPositions c R') : sortedFrom R = sortedFrom R' := by
  funext k
  unfold sortedFrom
  rw [List.get_of_eq h]
  rfl

theorem sortedFrom_value (f : Fin 64 → EReal) : sortedFrom (fun k k' => decide (f k' < f k)) = sortedFrom (greaterFirst (rowEnt f)) :=
  sortedFrom_of_eq _ _ (stableSort_value f (List.finRange 64) (List.pairwise_lt_finRange 64))

/-- The top of each row, at any sizes: what is at place `i`, and where it was. -/
theorem topK_gen {α : Type} {c k : Nat} (gt : α → α → BitVec 1) (x : (⟨2, ![n, c]⟩ : Shape).Idx → α)
    (h : (⟨2, ![n, c]⟩ : Shape).Slices (fun _ => 0) ⟨2, ![n, k]⟩) (r : Fin n) (i : Fin k) (hi : i.val < c) :
    (Host.topK ⟨2, ![n, k]⟩ 1 gt x h).1 (ix2 r i) = x (ix2 r (sortedFrom (fun a b => gt (x (ix2 r a)) (x (ix2 r b)) == 1#1) ⟨i.val, hi⟩))
      ∧ (Host.topK ⟨2, ![n, k]⟩ 1 gt x h).2 (ix2 r i) = BitVec.ofNat 32 (sortedFrom (fun a b => gt (x (ix2 r a)) (x (ix2 r b)) == 1#1) ⟨i.val, hi⟩).val := by
  have along (q : Fin c) : (ix2 r ⟨i.val, hi⟩ : (⟨2, ![n, c]⟩ : Shape).Idx).along 1 q = ix2 r q := by
    funext a
    match a with
    | 0 => rfl
    | 1 => rfl
  have hk : ∀ a : Fin 2, ((ix2 r ⟨i.val, hi⟩ : (⟨2, ![n, c]⟩ : Shape).Idx) a).val
      = 0 + ((ix2 r i : (⟨2, ![n, k]⟩ : Shape).Idx) (a.cast h.1.symm)).val := by
    intro a
    match a with
    | 0 => exact (Nat.zero_add _).symm
    | 1 => exact (Nat.zero_add _).symm
  have key1 (g : Fin c → (⟨2, ![n, c]⟩ : Shape).Idx) (hg : g = ix2 r) :
      x (g (sortedFrom (fun a b => gt (x (g a)) (x (g b)) == 1#1) ⟨i.val, hi⟩))
        = x (ix2 r (sortedFrom (fun a b => gt (x (ix2 r a)) (x (ix2 r b)) == 1#1) ⟨i.val, hi⟩)) := by
    rw [hg]
  have key2 (g : Fin c → (⟨2, ![n, c]⟩ : Shape).Idx) (hg : g = ix2 r) :
      BitVec.ofNat 32 (g (sortedFrom (fun a b => gt (x (g a)) (x (g b)) == 1#1) ⟨i.val, hi⟩) 1).val
        = BitVec.ofNat 32 (sortedFrom (fun a b => gt (x (ix2 r a)) (x (ix2 r b)) == 1#1) ⟨i.val, hi⟩).val := by
    rw [hg]; rfl
  unfold Host.topK
  dsimp only
  constructor
  · refine (extractStridedSlice_apply (fun _ => 0) _ h (ix2 r i) (ix2 r ⟨i.val, hi⟩) hk).trans ?_
    exact key1 (fun q => (ix2 r ⟨i.val, hi⟩ : (⟨2, ![n, c]⟩ : Shape).Idx).along 1 q) (funext along)
  · refine (extractStridedSlice_apply (fun _ => 0) _ h (ix2 r i) (ix2 r ⟨i.val, hi⟩) hk).trans ?_
    exact key2 (fun q => (ix2 r ⟨i.val, hi⟩ : (⟨2, ![n, c]⟩ : Shape).Idx).along 1 q) (funext along)

/-- The expert the stable top eight of row `r` puts at place `i`. -/
noncomputable def pick (x : Vec Ideal (Rows n) .f32) (r : Fin n) (i : Fin 8) : Fin 64 :=
  sortedFrom (greaterFirst (rowEnt (row x r))) ⟨i.val, by have := i.isLt; omega⟩

theorem pick_spec (x : Vec Ideal (Rows n) .f32) (r : Fin n) (i : Fin 8) :
    some (rowEnt (row x r) (pick x r i)) = (topList 16 (List.ofFn (rowEnt (row x r))))[i.val]? :=
  entry_sortedFrom_eq_topList (rowEnt (row x r)) (rowEnt_injective _) 16 ⟨i.val, by have := i.isLt; omega⟩ (by have := i.isLt; show i.val < 16; omega)

theorem topK_at (x : Vec Ideal (Rows n) .f32) (h : (Rows n).Slices (fun _ => 0) ⟨2, ![n, 8]⟩) (r : Fin n) (i : Fin 8) :
    (Host.topK (α := Ideal .f32) ⟨2, ![n, 8]⟩ 1 (FloatOps.cmpfTotal .gt) x h).1 (ix2 r i) = row x r (pick x r i)
      ∧ (Host.topK (α := Ideal .f32) ⟨2, ![n, 8]⟩ 1 (FloatOps.cmpfTotal .gt) x h).2 (ix2 r i) = BitVec.ofNat 32 (pick x r i).val := by
  have hi : i.val < 64 := by have := i.isLt; omega
  have hb : (fun a b : Fin 64 => FloatOps.cmpfTotal (F := Ideal) (φ := .f32) .gt (x (ix2 r a)) (x (ix2 r b)) == 1#1)
      = fun k k' => decide (row x r k' < row x r k) := by
    funext a b
    show (BitVec.ofBool (decide ((x (ix2 r b) : EReal) < x (ix2 r a))) == 1#1) = decide ((x (pt r b) : EReal) < x (pt r a))
    rw [pt_eq, pt_eq]
    cases decide ((x (ix2 r b) : EReal) < x (ix2 r a)) <;> rfl
  have hp : sortedFrom (fun a b : Fin 64 => FloatOps.cmpfTotal (F := Ideal) (φ := .f32) .gt (x (ix2 r a)) (x (ix2 r b)) == 1#1) ⟨i.val, hi⟩ = pick x r i := by
    rw [hb, sortedFrom_value]
    rfl
  obtain ⟨h1, h2⟩ := topK_gen (FloatOps.cmpfTotal (F := Ideal) (φ := .f32) .gt) x h r i hi
  rw [hp] at h1 h2
  exact ⟨h1.trans (by rw [← pt_eq]; rfl), h2⟩

/-! ## The token's register -/

theorem tok_pairwise (x : Vec Ideal (Rows n) .f32) (r : Fin n) :
    Antitone fun i : Fin 16 => (tokK (reg x r 0) (reg x r 1) (reg x r 2) (reg x r 3) (at16 i) : EReal) := by
  have h := regList_tok (row x r)
  have hp : (regList (tokK (quarter (row x r) 0) (quarter (row x r) 1) (quarter (row x r) 2) (quarter (row x r) 3))
      (tokV (quarter (row x r) 0) (quarter (row x r) 1) (quarter (row x r) 2) (quarter (row x r) 3))).Pairwise (· ≥ ·) := by
    rw [h]; exact pairwise_topList _ _
  intro i j hij
  have := antitone_of_pairwise hp hij
  rcases ent_le_iff.mp this with h | h
  · exact h.le
  · exact h.1.le

theorem tok_at (x : Vec Ideal (Rows n) .f32) (r : Fin n) (i : Fin 8) :
    tokK (reg x r 0) (reg x r 1) (reg x r 2) (reg x r 3) (at16 ⟨i.val, by have := i.isLt; omega⟩) = row x r (pick x r i)
      ∧ tokV (reg x r 0) (reg x r 1) (reg x r 2) (reg x r 3) (at16 ⟨i.val, by have := i.isLt; omega⟩) = BitVec.ofNat 32 (pick x r i).val := by
  have h := pick_spec x r i
  rw [← regList_tok] at h
  have hi : i.val < 16 := by have := i.isLt; omega
  have he : (regList (tokK (reg x r 0) (reg x r 1) (reg x r 2) (reg x r 3)) (tokV (reg x r 0) (reg x r 1) (reg x r 2) (reg x r 3)))[i.val]?
      = some (ents (tokK (reg x r 0) (reg x r 1) (reg x r 2) (reg x r 3)) (tokV (reg x r 0) (reg x r 1) (reg x r 2) (reg x r 3)) ⟨i.val, hi⟩) := by
    unfold regList
    rw [List.getElem?_ofFn, dif_pos hi]
  obtain ⟨h1, h2⟩ := ent_inj (Option.some.inj (h.trans he))
  refine ⟨h1.symm, ?_⟩
  apply BitVec.eq_of_toNat_eq
  rw [← h2, BitVec.toNat_ofNat]
  have := (pick x r i).isLt
  omega

/-! ## The softmax of the first eight lanes -/

theorem maxl_eq (v : Vec Ideal S16 .f32) (hv : Antitone fun i : Fin 16 => (v (at16 i) : EReal)) : maxl v = v (at16 0) := by
  obtain ⟨k, hk⟩ := maxl_mem v
  refine le_antisymm ?_ (le_maxl v 0)
  rw [hk]
  exact hv (Fin.zero_le k)

theorem expo_at (v : Vec Ideal S16 .f32) (hv : Antitone fun i : Fin 16 => (v (at16 i) : EReal)) (k : Fin 16) :
    expo low8 v (at16 k) = if k.val < 8 then Ideal.exp ((v (at16 k) : EReal) - v (at16 0)) else (0 : EReal) := by
  show (if low8 (at16 k) = 1 then Ideal.exp ((v (at16 k) : EReal) - maxl v) else Ideal.ofBits .f32 0x00000000#32) = _
  rw [maxl_eq v hv, Ideal.ofBits_zero_f32]
  exact if_congr (low8_at k) rfl rfl

theorem suml_at (v : Vec Ideal S16 .f32) (hv : Antitone fun i : Fin 16 => (v (at16 i) : EReal)) :
    suml (expo low8 v) = ∑ k : Fin 8, Ideal.exp ((v (at16 ⟨k.val, by have := k.isLt; omega⟩) : EReal) - v (at16 0)) := by
  unfold suml
  simp only [lane_eq, Ideal.scalar_addf_def, expo_at v hv]
  rw [Fin.sum_univ_eight]
  norm_num

theorem score_at (x : Vec Ideal (Rows n) .f32) (r : Fin n) (i : Fin 8) :
    scoreAt x r ⟨i.val, by have := i.isLt; omega⟩
      = Ideal.div (Ideal.exp (row x r (pick x r i) - row x r (pick x r 0)))
          (∑ k : Fin 8, Ideal.exp (row x r (pick x r k) - row x r (pick x r 0))) := by
  unfold scoreAt soft
  show Ideal.div (expo (F := Ideal) low8 (tokK (reg x r 0) (reg x r 1) (reg x r 2) (reg x r 3)) (at16 _))
    (suml (F := Ideal) (expo (F := Ideal) low8 (tokK (reg x r 0) (reg x r 1) (reg x r 2) (reg x r 3)))) = _
  rw [suml_at _ (tok_pairwise x r), expo_at _ (tok_pairwise x r), if_pos i.isLt]
  have h0 : tokK (reg x r 0) (reg x r 1) (reg x r 2) (reg x r 3) (at16 0) = row x r (pick x r 0) := (tok_at x r 0).1
  have hs : (∑ k : Fin 8, Ideal.exp ((tokK (reg x r 0) (reg x r 1) (reg x r 2) (reg x r 3) (at16 ⟨k.val, by have := k.isLt; omega⟩) : EReal)
        - tokK (reg x r 0) (reg x r 1) (reg x r 2) (reg x r 3) (at16 0)))
      = ∑ k : Fin 8, Ideal.exp (row x r (pick x r k) - row x r (pick x r 0)) :=
    Finset.sum_congr rfl fun k _ => by rw [(tok_at x r k).1, h0]
  rw [hs, (tok_at x r i).1, h0]

theorem expert_at (x : Vec Ideal (Rows n) .f32) (r : Fin n) (i : Fin 8) :
    expertAt x r ⟨i.val, by have := i.isLt; omega⟩ = BitVec.ofNat 32 (pick x r i).val := (tok_at x r i).2

/-- The first pick is the greatest. -/
theorem pick_le (x : Vec Ideal (Rows n) .f32) (r : Fin n) (i : Fin 8) : row x r (pick x r i) ≤ row x r (pick x r 0) := by
  rw [← (tok_at x r i).1, ← (tok_at x r 0).1]
  exact tok_pairwise x r (Fin.zero_le _)

end Router
-- ==== Proof.Dot.lean ====
module

public import proofs.«01_k».proof.Proof.MatmulIdeal
public import Idealize.ShloMosaic.Lib.MatmulPlain
public import Idealize.ShloMosaic.Lib.Pointwise.Index
public import Idealize.ShloMosaic.Lib.Pipeline.Value
public import Idealize.ShloMosaic.Lib.Pipeline.ValueKit.Geometry
public import Idealize.ShloMosaic.PureOps.Ideal
public import Idealize.ShloMosaic.PureOps.Ideal.Laws

/-! The logits the matrix product leaves, over the extended reals: at each token and expert the sum, over the
features, of the token's times the expert's. -/

@[expose] public section

noncomputable section

namespace Cert.Proof.KernelIdeal

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem tr2 : ∀ t : Fin cfg0.N, cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0)
theorem fl2 : ∀ t : Fin cfg0.N, (cfg0.win 2).flush t = true :=
  (by decide +kernel : ∀ t : Fin grid0.N, win0_2.flush t = true)

theorem nN : cfg0.N = 32 := rfl

/-- Token `512 t + a`. -/
def tokenOf (t : Fin cfg0.N) (a : Fin 512) : Fin 16384 := ⟨512 * t.val + a.val, by have h : t.val < 32 := t.isLt; have := a.isLt; omega⟩

/-- The tokens. -/
def xA (d : Dev nD) : S16384x4096.Idx → EReal := m ((d : Thread nD τ).loc main_arg0)
/-- The weights, transposed. -/
def wT (d : Dev nD) : S4096x64.Idx → EReal := transpose S4096x64 [1, 0] (m ((d : Thread nD τ).loc main_arg1)) transposes_S64x4096_S4096x64_1_0

theorem ix2_eq {a b : Nat} (i : Fin a) (j : Fin b) : ValueIdx.ix2 i j = ix2 i j := by
  funext k
  match k with
  | 0 => rfl
  | 1 => rfl

theorem iblk0_at (d : Dev nD) (t : Fin cfg0.N) (a : Fin 512) (k : Fin 4096) :
    (iblk m d 0 t : Vec Ideal S512x4096 .f32) (ix2 a k) = xA m d (ix2 (tokenOf t a) k) := by
  unfold xA
  rw [← Vr_ne m d main_arg0 (by decide)]
  show Vr m d main_arg0 _ = Vr m d main_arg0 _
  refine congrArg (Vr m d main_arg0) (Shape.idx_ext₂ ?_ ?_)
  · show cc0_transform_0 (grid0.coords t) 0 * 512 + 1 * a.val = 512 * t.val + a.val
    rw [(tr0 t).1]; omega
  · show cc0_transform_0 (grid0.coords t) 1 * 4096 + 1 * k.val = k.val
    rw [(tr0 t).2]; omega

theorem iblk1_at (d : Dev nD) (t : Fin cfg0.N) (k : Fin 4096) (c : Fin 64) :
    (iblk m d 1 t : Vec Ideal S4096x64 .f32) (ix2 k c) = Vr m d main_v0 (ix2 k c) := by
  show Vr m d main_v0 _ = Vr m d main_v0 _
  refine congrArg (Vr m d main_v0) (Shape.idx_ext₂ ?_ ?_)
  · show 0 * 4096 + 1 * k.val = k.val
    omega
  · show 0 * 64 + 1 * c.val = c.val
    omega

theorem out_at (x : Vec Ideal S512x4096 .f32) (w : Vec Ideal S4096x64 .f32) (a : Fin 512) (c : Fin 64) :
    (out0_2 x w (ix2 a c) : EReal) = ∑ k : Fin 4096, (x (ix2 a k) : EReal) * (w (ix2 k c) : EReal) := by
  unfold out0_2
  rw [View.canon_unit_zero (by funext a; fin_cases a <;> rfl), View.ld_unit_zero (by funext a; fin_cases a <;> rfl),
    View.ld_unit_zero (by funext a; fin_cases a <;> rfl)]
  unfold k0_pay1
  simp only [matmul]
  rw [shapeCast_self]
  have h := Ideal.matmul_plain_apply (φ₁ := .f32) (φ₂ := .f32) none x w (constant (F := Ideal) S512x64 .f32 0x00000000#32) a c
  simp only [ix2_eq] at h
  refine h.trans ?_
  show Ideal.ofBits .f32 0x00000000#32 + _ = _
  rw [Ideal.ofBits_zero_f32, zero_add]

theorem lg_at (d : Dev nD) (r : Fin 16384) (c : Fin 64) :
    lg m d (ix2 r c) = ∑ k : Fin 4096, xA m d (ix2 r k) * wT m d (ix2 k c) := by
  set t : Fin cfg0.N := ⟨r.val / 512, by have := r.isLt; rw [nN]; omega⟩ with ht
  set a : Fin 512 := ⟨r.val % 512, by omega⟩ with ha
  have hr : tokenOf t a = r := Fin.ext (by show 512 * (r.val / 512) + r.val % 512 = r.val; omega)
  have hb := congrFun ((blocks2 m d t (fl2 t)).trans (flushed2 m d t)) (ix2 a c)
  have hl : ((cfg0.win 2).blk t).view.read (Elt Ideal) ((dats m 0 d).arrAt 2 cfg0.N) (ix2 a c) = lg m d (ix2 r c) := by
    show lg m d _ = lg m d _
    refine congrArg (lg m d) (Shape.idx_ext₂ ?_ ?_)
    · show cc0_transform_2 (grid0.coords t) 0 * 512 + 1 * a.val = r.val
      rw [(tr2 t).1]; show r.val / 512 * 512 + 1 * (r.val % 512) = _; omega
    · show cc0_transform_2 (grid0.coords t) 1 * 64 + 1 * c.val = c.val
      rw [(tr2 t).2]; omega
  rw [← hl, hb]
  show out0_2 (iblk m d 0 t) (iblk m d 1 t) (ix2 a c) = _
  rw [out_at]
  refine Finset.sum_congr rfl fun k _ => ?_
  rw [iblk0_at, iblk1_at, hr, Vr_v0]
  rfl

end Cert.Proof.KernelIdeal

end
-- ==== Proof.Value.lean ====
module

public import proofs.«01_k».proof.Proof.Spec
public import proofs.«01_k».proof.Proof.Dot
public import proofs.«01_k».proof.Proof.LaunchIdeal
public import proofs.«01_k».proof.Proof.Gen.ReferenceIdeal
public import proofs.«01_k».proof.Proof.Gen.ReferenceIdeal.Run
public import Idealize.ShloMosaic.Lib.Pointwise.Reduce
public import Idealize.ShloMosaic.Lib.StackMember
public import Idealize.ShloMosaic.Lib.IdealHost

/-! The kernel's two results and the reference's, element by element: both are the stable top eight of the same
logits, and the softmax of those eight. -/

@[expose] public section

noncomputable section

namespace Cert.Proof.Value

open Idealize.ShloMosaic Router Idealize.SL.Sem

theorem ext2 {α : Type} {a b : Nat} (f g : (⟨2, ![a, b]⟩ : Shape).Idx → α) (h : ∀ r c, f (ix2 r c) = g (ix2 r c)) : f = g :=
  funext fun j => by rw [eq_ix2 j]; exact h _ _

theorem divf_at {s : Shape} (a b : FVec Ideal s .f32) (j : s.Idx) : Host.divf a b j = Ideal.div (a j) (b j) := rfl

/-! ## The reference -/

section Reference

open Cert.ReferenceIdeal Cert.ReferenceIdeal.Gen

variable (T : FVec Ideal S16384x8 .f32)

/-- Each row's greatest, -/
def redMax : FVec Ideal S16384 .f32 :=
  Host.reduce FloatOps.maximumf T (constant S_ .f32 0xFF800000#32) reducesTo_S16384x8_S16384_d1 h_S_
/-- not below the least number. -/
def rowMax : FVec Ideal S16384 .f32 :=
  maximumf (broadcastInDim S16384 ![] bcast_S_S16384 (constant S_ .f32 0xFF800000#32)) (redMax T)

/-- One number a row, spread over the row. -/
def spread (v : FVec Ideal S16384 .f32) : FVec Ideal S16384x8 .f32 :=
  broadcastInDim S16384x8 ![0, 1] bcast_S16384x1_S16384x8_0_1 (broadcastInDim S16384x1 ![0] bcast_S16384_S16384x1_0 v)

/-- The exponentials of a row less its greatest. -/
def expos : FVec Ideal S16384x8 .f32 := Host.exp (subf T (spread (rowMax T)))

/-- Their sums. -/
def sums : FVec Ideal S16384 .f32 := Host.reduceAdd (expos T) (constant S_ .f32 0x00000000#32) reducesTo_S16384x8_S16384_d1 h_S_

/-- The softmax of each row. -/
def softmaxRef : FVec Ideal S16384x8 .f32 := Host.divf (expos T) (spread (sums T))

theorem spread_at (v : FVec Ideal S16384 .f32) (r : Fin 16384) (i : Fin 8) : spread v (ix2 r i) = v (ix1 r) := by
  unfold spread
  rw [broadcastInDim_apply (t := S16384x8) ![0, 1] bcast_S16384x1_S16384x8_0_1 _ (ix2 r i) (ix2 r (0 : Fin 1)) (fun a => by
      match a with
      | 0 => rfl
      | 1 => rfl),
    broadcastInDim_apply (t := S16384x1) ![0] bcast_S16384_S16384x1_0 v (ix2 r (0 : Fin 1)) (ix1 r) (fun a => by
      match a with
      | 0 => rfl)]

theorem rowMax_at (r : Fin 16384) (hT : ∀ k : Fin 8, (T (ix2 r k) : EReal) ≤ T (ix2 r 0)) : (rowMax T (ix1 r) : EReal) = T (ix2 r 0) := by
  have h : (redMax T (ix1 r) : EReal) = Finset.univ.fold max (⊥ : EReal) fun k : Fin 8 => (T (ix2 r k) : EReal) := by
    unfold redMax
    simp only [pointwise]
    rw [← ofBits_ninf]
    rfl
  have hf : (Finset.univ.fold max (⊥ : EReal) fun k : Fin 8 => (T (ix2 r k) : EReal)) = T (ix2 r 0) :=
    le_antisymm ((Finset.fold_max_le _).mpr ⟨bot_le, fun k _ => hT k⟩) ((Finset.le_fold_max _).mpr (Or.inr ⟨0, Finset.mem_univ _, le_refl _⟩))
  show max (Ideal.ofBits .f32 0xFF800000#32) (redMax T (ix1 r) : EReal) = _
  rw [h, hf, ofBits_ninf]
  exact max_eq_right bot_le

theorem expos_at (r : Fin 16384) (hT : ∀ k : Fin 8, (T (ix2 r k) : EReal) ≤ T (ix2 r 0)) (i : Fin 8) :
    (expos T (ix2 r i) : EReal) = Ideal.exp ((T (ix2 r i) : EReal) - T (ix2 r 0)) := by
  show Ideal.exp ((T (ix2 r i) : EReal) - spread (rowMax T) (ix2 r i)) = _
  rw [spread_at, rowMax_at T r hT]

theorem softmaxRef_at (r : Fin 16384) (hT : ∀ k : Fin 8, (T (ix2 r k) : EReal) ≤ T (ix2 r 0)) (i : Fin 8) :
    (softmaxRef T (ix2 r i) : EReal) = Ideal.div (Ideal.exp ((T (ix2 r i) : EReal) - T (ix2 r 0)))
      (∑ k : Fin 8, Ideal.exp ((T (ix2 r k) : EReal) - T (ix2 r 0))) := by
  have h : (sums T (ix1 r) : EReal) = (0 : EReal) + ∑ k : Fin 8, (expos T (ix2 r k) : EReal) := by
    unfold sums
    simp only [pointwise, Ideal.hostReduceAdd_def]
    rw [← Ideal.ofBits_zero_f32]
    rfl
  unfold softmaxRef
  rw [divf_at, spread_at, h, zero_add, expos_at T r hT]
  exact congrArg _ (Finset.sum_congr rfl fun k _ => expos_at T r hT k)

variable (x : FVec Ideal S16384x64 .f32)

/-- The reference's eight values a token, -/
def topV : FVec Ideal S16384x8 .f32 := (Host.topK S16384x8 1 (FloatOps.cmpfTotal .gt) x sliceFits_S16384x64_S16384x8).1
/-- and their experts. -/
def topI : IVec S16384x8 32 := (Host.topK S16384x8 1 (FloatOps.cmpfTotal .gt) x sliceFits_S16384x64_S16384x8).2

theorem topV_at (r : Fin 16384) (i : Fin 8) : (topV x (ix2 r i) : EReal) = row (n := 16384) x r (pick (n := 16384) x r i) :=
  (topK_at (n := 16384) x sliceFits_S16384x64_S16384x8 r i).1
theorem topI_at (r : Fin 16384) (i : Fin 8) : topI x (ix2 r i) = BitVec.ofNat 32 (pick (n := 16384) x r i).val :=
  (topK_at (n := 16384) x sliceFits_S16384x64_S16384x8 r i).2

/-- The reference's score is the kernel's lane, -/
theorem ref_score (r : Fin 16384) (i : Fin 8) :
    softmaxRef (topV x) (ix2 r i) = scoreAt (F := Ideal) (n := 16384) x r ⟨i.val, by have := i.isLt; omega⟩ := by
  refine (softmaxRef_at (topV x) r (fun k => ?_) i).trans ?_
  · rw [topV_at, topV_at]; exact pick_le (n := 16384) x r k
  · simp only [topV_at]
    exact (score_at (n := 16384) x r i).symm

/-- and its expert the kernel's. -/
theorem ref_expert (r : Fin 16384) (i : Fin 8) :
    topI x (ix2 r i) = expertAt (F := Ideal) (n := 16384) x r ⟨i.val, by have := i.isLt; omega⟩ :=
  (topI_at x r i).trans (expert_at (n := 16384) x r i).symm

end Reference

/-! ## The kernel -/

theorem flat_score (x : Vec Ideal (Rows 16384) .f32) (h : (⟨1, ![131072]⟩ : Shape).ShapeCasts ⟨2, ![16384, 8]⟩) (r : Fin 16384) (i : Fin 8) :
    shapeCast ⟨2, ![16384, 8]⟩ (scoresFlat (n := 16384) (N := 131072) rfl x) h (ix2 r i) = scoreAt x r ⟨i.val, by have := i.isLt; omega⟩ := by
  have hi := i.isLt
  have hr := r.isLt
  rw [shapeCast_apply _ h (ix2 r i) (ix1 (⟨r.val * 8 + i.val, by omega⟩ : Fin 131072)) (by rw [Shape.rowMajor_val_one, Shape.rowMajor_val_two]; rfl)]
  unfold scoresFlat
  exact congr (congrArg (scoreAt x) (Fin.ext (by show (r.val * 8 + i.val) / 8 = r.val; omega))) (Fin.ext (by show (r.val * 8 + i.val) % 8 = i.val; omega))

theorem flat_expert (x : Vec Ideal (Rows 16384) .f32) (h : (⟨1, ![131072]⟩ : Shape).ShapeCasts ⟨2, ![16384, 8]⟩) (r : Fin 16384) (i : Fin 8) :
    shapeCast ⟨2, ![16384, 8]⟩ (expertsFlat (n := 16384) (N := 131072) rfl x) h (ix2 r i) = expertAt x r ⟨i.val, by have := i.isLt; omega⟩ := by
  have hi := i.isLt
  have hr := r.isLt
  rw [shapeCast_apply _ h (ix2 r i) (ix1 (⟨r.val * 8 + i.val, by omega⟩ : Fin 131072)) (by rw [Shape.rowMajor_val_one, Shape.rowMajor_val_two]; rfl)]
  unfold expertsFlat
  exact congr (congrArg (expertAt x) (Fin.ext (by show (r.val * 8 + i.val) / 8 = r.val; omega))) (Fin.ext (by show (r.val * 8 + i.val) % 8 = i.val; omega))

/-! ## Both -/

/-- The reference's logits, of tokens and weights. -/
def logits (a : FVec Ideal Cert.ReferenceIdeal.S16384x4096 .f32) (b : FVec Ideal Cert.ReferenceIdeal.S64x4096 .f32) : FVec Ideal Cert.ReferenceIdeal.S16384x64 .f32 :=
  Host.dotGeneral Cert.ReferenceIdeal.dot_S16384x4096_S4096x64_S16384x64_1_0_0_1_n_n none a
    (transpose Cert.ReferenceIdeal.S4096x64 [1, 0] b Cert.ReferenceIdeal.Gen.transposes_S64x4096_S4096x64_1_0)

variable (m : (ℓ : Loc Cert.KernelIdeal.nD Cert.KernelIdeal.τ Cert.KernelIdeal.sig) → Buf (Elt Ideal) ℓ)

theorem logits_eq (d : Dev Cert.KernelIdeal.nD) :
    logits (m ((d.tc : Thread Cert.KernelIdeal.nD Cert.KernelIdeal.τ).loc Cert.KernelIdeal.main_arg0))
      (m ((d.tc : Thread Cert.KernelIdeal.nD Cert.KernelIdeal.τ).loc Cert.KernelIdeal.main_arg1)) = KernelIdeal.lg m d := by
  refine ext2 (a := 16384) (b := 64) _ _ fun r c => ?_
  refine Eq.trans ?_ (KernelIdeal.lg_at m d r c).symm
  have h := StackMember.dotGeneral_plain_apply (φ₁ := .f32) (φ₂ := .f32) none (KernelIdeal.xA m d) (KernelIdeal.wT m d) r c
  simp only [KernelIdeal.ix2_eq] at h
  exact h

theorem score_eq (d : Dev Cert.KernelIdeal.nD) : softmaxRef (topV (KernelIdeal.lg m d)) = KernelIdeal.R3 m d := by
  refine ext2 (a := 16384) (b := 8) _ _ fun r i => ?_
  exact (ref_score _ r i).trans (flat_score (KernelIdeal.lg m d) _ r i).symm

theorem expert_eq (d : Dev Cert.KernelIdeal.nD) : topI (KernelIdeal.lg m d) = KernelIdeal.R4 m d := by
  refine ext2 (a := 16384) (b := 8) _ _ fun r i => ?_
  exact (ref_expert _ r i).trans (flat_expert (KernelIdeal.lg m d) _ r i).symm

end Cert.Proof.Value

end
-- ==== Proof.lean ====
module

public import proofs.«01_k».proof.Defs
public import proofs.«01_k».proof.Proof.Launch
public import proofs.«01_k».proof.Proof.LaunchIdeal
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m ρ _ =>
  (θ_run Cert.Kernel.defs _ _).mono (fun _ h => ⟨fun c => ⟨(h.1 c).2.2.1, (h.1 c).2.2.2⟩, h.2⟩) (Kernel.run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => ⟨(h.1 c).2.2.1, (h.1 c).2.2.2⟩, h.2⟩) (KernelIdeal.run_main (F := Ideal) m ρ)

/-- The reference is host code alone and has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => ⟨(h c).2.2.1, (h c).2.2.2⟩,
      Idealize.ShloMosaic.sem_eq_zero_of_no_sems (by decide) r.2⟩)
    (Cert.ReferenceIdeal.Value.run (F := Ideal) m ρ)

/-- The two results agree, element by element. -/
theorem algebraic : Cert.algebraic_KernelIdeal_ReferenceIdeal (hKernelIdeal := Cert.KernelIdeal.Gen.facts) (hReferenceIdeal := Cert.ReferenceIdeal.Gen.facts) :=
  fun m g m' g' _ hag => by
    have hl (c : Dev Cert.KernelIdeal.nD) : Value.logits
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = KernelIdeal.lg m c := by
      rw [(hag c).1, (hag c).2]
      exact Value.logits_eq m c
    refine ⟨fun c => KernelIdeal.R3 m c, fun c => KernelIdeal.R4 m c,
      (θ_run Cert.KernelIdeal.defs _ _).mono (fun _ h => h.1) (KernelIdeal.run_main (F := Ideal) m g),
      (θ_run Cert.ReferenceIdeal.defs _ _).mono (fun r h c => ⟨(h c).1.trans ?_, (h c).2.1.trans ?_, (h c).2.2.1, (h c).2.2.2⟩)
        (Cert.ReferenceIdeal.Value.run (F := Ideal) m' g')⟩
    · exact (congrArg (fun x => Value.softmaxRef (Value.topV x)) (hl c)).trans (Value.score_eq m c)
    · exact (congrArg Value.topI (hl c)).trans (Value.expert_eq m c)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
